-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "one_7168th" .f32 0x39124925#32 ((1 / 7168 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_v9_3) = v3 c
          ∧ r.2.mem ((c.tc : Thread Cert.ReferenceIdeal.nD Cert.ReferenceIdeal.τ).loc Cert.ReferenceIdeal.main_v9_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x8192x7168 : Shape := ⟨3, ![3, 8192, 7168]⟩
abbrev S7168 : Shape := ⟨1, ![7168]⟩
abbrev S576x7168 : Shape := ⟨2, ![576, 7168]⟩
abbrev S5x56 : Shape := ⟨2, ![5, 56]⟩
abbrev S512 : Shape := ⟨1, ![512]⟩
abbrev S24576x7168 : Shape := ⟨2, ![24576, 7168]⟩
abbrev S56x128 : Shape := ⟨2, ![56, 128]⟩
abbrev S4x128 : Shape := ⟨2, ![4, 128]⟩
abbrev S24576x512 : Shape := ⟨2, ![24576, 512]⟩
abbrev S24576x64 : Shape := ⟨2, ![24576, 64]⟩
abbrev S24576x56 : Shape := ⟨2, ![24576, 56]⟩
abbrev S256x7168 : Shape := ⟨2, ![256, 7168]⟩
abbrev S256x512 : Shape := ⟨2, ![256, 512]⟩
abbrev S256x64 : Shape := ⟨2, ![256, 64]⟩
abbrev S256x56 : Shape := ⟨2, ![256, 56]⟩
abbrev S7168x256 : Shape := ⟨2, ![7168, 256]⟩
abbrev S7168x128 : Shape := ⟨2, ![7168, 128]⟩
abbrev S512x128 : Shape := ⟨2, ![512, 128]⟩
abbrev S56x256 : Shape := ⟨2, ![56, 256]⟩
abbrev S128x56 : Shape := ⟨2, ![128, 56]⟩
abbrev S128x1 : Shape := ⟨2, ![128, 1]⟩
abbrev S128x128 : Shape := ⟨2, ![128, 128]⟩
abbrev S128x4 : Shape := ⟨2, ![128, 4]⟩
abbrev S1x1 : Shape := ⟨2, ![1, 1]⟩
abbrev S64x128 : Shape := ⟨2, ![64, 128]⟩
abbrev S16x8x128 : Shape := ⟨3, ![16, 8, 128]⟩
abbrev S8x128 : Shape := ⟨2, ![8, 128]⟩
abbrev S128 : Shape := ⟨1, ![128]⟩
abbrev S1x128 : Shape := ⟨2, ![1, 128]⟩
abbrev S248x128 : Shape := ⟨2, ![248, 128]⟩
abbrev S256x128 : Shape := ⟨2, ![256, 128]⟩
abbrev S256x256 : Shape := ⟨2, ![256, 256]⟩
abbrev S576x256 : Shape := ⟨2, ![576, 256]⟩
abbrev S128x512 : Shape := ⟨2, ![128, 512]⟩
abbrev S128x64 : Shape := ⟨2, ![128, 64]⟩

abbrev nBuf : Space → Nat
  | .hbm => 15
  | .vmem => 22
  | .smem => 1
  | _ => 0

abbrev bufTy : (tb : Table) → Fin (tcTables nBuf tb) → BufTy
  | .hbm, ⟨0, _⟩ => ⟨S3x8192x7168, .bf16⟩
  | .hbm, ⟨1, _⟩ => ⟨S3x8192x7168, .bf16⟩
  | .hbm, ⟨2, _⟩ => ⟨S7168, .f32⟩
  | .hbm, ⟨3, _⟩ => ⟨S576x7168, .fp8e4m3⟩
  | .hbm, ⟨4, _⟩ => ⟨S5x56, .f32⟩
  | .hbm, ⟨5, _⟩ => ⟨S512, .f32⟩
  | .hbm, ⟨6, _⟩ => ⟨S24576x7168, .bf16⟩
  | .hbm, ⟨7, _⟩ => ⟨S24576x7168, .bf16⟩
  | .hbm, ⟨8, _⟩ => ⟨S56x128, .f32⟩
  | .hbm, ⟨9, _⟩ => ⟨S4x128, .f32⟩
  | .hbm, ⟨10, _⟩ => ⟨S24576x512, .bf16⟩
  | .hbm, ⟨11, _⟩ => ⟨S24576x64, .bf16⟩
  | .hbm, ⟨12, _⟩ => ⟨S24576x7168, .bf16⟩
  | .hbm, ⟨13, _⟩ => ⟨S24576x7168, .fp8e4m3⟩
  | .hbm, ⟨14, _⟩ => ⟨S24576x56, .f32⟩
  | .local _ .vmem, ⟨0, _⟩ => ⟨S256x7168, .bf16⟩
  | .local _ .vmem, ⟨1, _⟩ => ⟨S256x7168, .bf16⟩
  | .local _ .vmem, ⟨2, _⟩ => ⟨S256x7168, .bf16⟩
  | .local _ .vmem, ⟨3, _⟩ => ⟨S256x7168, .bf16⟩
  | .local _ .vmem, ⟨4, _⟩ => ⟨S56x128, .f32⟩
  | .local _ .vmem, ⟨5, _⟩ => ⟨S576x7168, .fp8e4m3⟩
  | .local _ .vmem, ⟨6, _⟩ => ⟨S4x128, .f32⟩
  | .local _ .vmem, ⟨7, _⟩ => ⟨S256x512, .bf16⟩
  | .local _ .vmem, ⟨8, _⟩ => ⟨S256x512, .bf16⟩
  | .local _ .vmem, ⟨9, _⟩ => ⟨S256x64, .bf16⟩
  | .local _ .vmem, ⟨10, _⟩ => ⟨S256x64, .bf16⟩
  | .local _ .vmem, ⟨11, _⟩ => ⟨S256x7168, .bf16⟩
  | .local _ .vmem, ⟨12, _⟩ => ⟨S256x7168, .bf16⟩
  | .local _ .vmem, ⟨13, _⟩ => ⟨S256x7168, .fp8e4m3⟩
  | .local _ .vmem, ⟨14, _⟩ => ⟨S256x7168, .fp8e4m3⟩
  | .local _ .vmem, ⟨15, _⟩ => ⟨S256x56, .f32⟩
  | .local _ .vmem, ⟨16, _⟩ => ⟨S256x56, .f32⟩
  | .local _ .vmem, ⟨17, _⟩ => ⟨S7168x256, .bf16⟩
  | .local _ .vmem, ⟨18, _⟩ => ⟨S576x7168, .bf16⟩
  | .local _ .vmem, ⟨19, _⟩ => ⟨S7168x128, .f32⟩
  | .local _ .vmem, ⟨20, _⟩ => ⟨S512x128, .f32⟩
  | .local _ .vmem, ⟨21, _⟩ => ⟨S56x256, .f32⟩
  | .local _ .smem, ⟨0, _⟩ => ⟨S5x56, .f32⟩
  | _, _ => ⟨S3x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S56x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S576x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S5x56 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x7168 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x7168 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x56 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "one_7168th" => some ((1 / 7168 : ℝ) : EReal)
  | _ => none
-- ==== ReferenceIdeal.lean ====
abbrev S3x8192x7168 : Shape := ⟨3, ![3, 8192, 7168]⟩
abbrev S7168 : Shape := ⟨1, ![7168]⟩
abbrev S576x7168 : Shape := ⟨2, ![576, 7168]⟩
abbrev S5x56 : Shape := ⟨2, ![5, 56]⟩
abbrev S512 : Shape := ⟨1, ![512]⟩
abbrev S5x128x56 : Shape := ⟨3, ![5, 128, 56]⟩
abbrev S640x56 : Shape := ⟨2, ![640, 56]⟩
abbrev S640x56x128 : Shape := ⟨3, ![640, 56, 128]⟩
abbrev S640x7168 : Shape := ⟨2, ![640, 7168]⟩
abbrev S24576x7168 : Shape := ⟨2, ![24576, 7168]⟩
abbrev S1x7168 : Shape := ⟨2, ![1, 7168]⟩
abbrev S1x512 : Shape := ⟨2, ![1, 512]⟩
abbrev S24576x512 : Shape := ⟨2, ![24576, 512]⟩
abbrev S24576x64 : Shape := ⟨2, ![24576, 64]⟩
abbrev S24576x56 : Shape := ⟨2, ![24576, 56]⟩
abbrev S24576 : Shape := ⟨1, ![24576]⟩
abbrev S24576x1 : Shape := ⟨2, ![24576, 1]⟩
abbrev S24576x56x128 : Shape := ⟨3, ![24576, 56, 128]⟩
abbrev S24576x56x1 : Shape := ⟨3, ![24576, 56, 1]⟩
abbrev S24576x576 : Shape := ⟨2, ![24576, 576]⟩

abbrev nBuf : Space → Nat
  | .hbm => 20
  | .vmem => 11
  | .smem => 0
  | _ => 0

abbrev bufTy : (tb : Table) → Fin (tcTables nBuf tb) → BufTy
  | .hbm, ⟨0, _⟩ => ⟨S3x8192x7168, .bf16⟩
  | .hbm, ⟨1, _⟩ => ⟨S3x8192x7168, .bf16⟩
  | .hbm, ⟨2, _⟩ => ⟨S7168, .f32⟩
  | .hbm, ⟨3, _⟩ => ⟨S576x7168, .fp8e4m3⟩
  | .hbm, ⟨4, _⟩ => ⟨S5x56, .f32⟩
  | .hbm, ⟨5, _⟩ => ⟨S512, .f32⟩
  | .hbm, ⟨6, _⟩ => ⟨S5x128x56, .f32⟩
  | .hbm, ⟨7, _⟩ => ⟨S640x56, .f32⟩
  | .hbm, ⟨8, _⟩ => ⟨S640x56x128, .f32⟩
  | .hbm, ⟨9, _⟩ => ⟨S640x7168, .f32⟩
  | .hbm, ⟨10, _⟩ => ⟨S576x7168, .f32⟩
  | .hbm, ⟨11, _⟩ => ⟨S24576x7168, .bf16⟩
  | .hbm, ⟨12, _⟩ => ⟨S24576x7168, .bf16⟩
  | .hbm, ⟨13, _⟩ => ⟨S1x7168, .f32⟩
  | .hbm, ⟨14, _⟩ => ⟨S1x512, .f32⟩
  | .hbm, ⟨15, _⟩ => ⟨S24576x512, .bf16⟩
  | .hbm, ⟨16, _⟩ => ⟨S24576x64, .bf16⟩
  | .hbm, ⟨17, _⟩ => ⟨S24576x7168, .bf16⟩
  | .hbm, ⟨18, _⟩ => ⟨S24576x7168, .fp8e4m3⟩
  | .hbm, ⟨19, _⟩ => ⟨S24576x56, .f32⟩
  | .local _ .vmem, ⟨0, _⟩ => ⟨S24576x7168, .bf16⟩
  | .local _ .vmem, ⟨1, _⟩ => ⟨S24576x7168, .bf16⟩
  | .local _ .vmem, ⟨2, _⟩ => ⟨S1x7168, .f32⟩
  | .local _ .vmem, ⟨3, _⟩ => ⟨S576x7168, .fp8e4m3⟩
  | .local _ .vmem, ⟨4, _⟩ => ⟨S576x7168, .f32⟩
  | .local _ .vmem, ⟨5, _⟩ => ⟨S1x512, .f32⟩
  | .local _ .vmem, ⟨6, _⟩ => ⟨S24576x512, .bf16⟩
  | .local _ .vmem, ⟨7, _⟩ => ⟨S24576x64, .bf16⟩
  | .local _ .vmem, ⟨8, _⟩ => ⟨S24576x7168, .bf16⟩
  | .local _ .vmem, ⟨9, _⟩ => ⟨S24576x7168, .fp8e4m3⟩
  | .local _ .vmem, ⟨10, _⟩ => ⟨S24576x56, .f32⟩
  | _, _ => ⟨S3x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S24576x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S576x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S576x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x7168 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24576x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24576x56 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Scale.lean ====
module

public import Idealize.ShloMosaic.PureOps
public import Idealize.ShloMosaic.PureOps.Ideal
public import Idealize.ShloMosaic.Lib.IndicatorCount

@[expose] public section

/-! # The power-of-two scale of a block

A block whose largest magnitude is `448 · t` is scaled by a power of two.  The program finds the exponent by
counting the powers `2^-126, …, 2^121` that do not exceed `t`; the plain formula takes the floor of the base-two
logarithm and clips it.  This file says, for every extended real `t`, that the two are the same. -/

noncomputable section

namespace Cert.Down

open Idealize.ShloMosaic

/-- The single-precision word whose exponent field is `n` and whose other fields are zero is `2 ^ (n - 127)`. -/
theorem ofBits_exponent (n : ℕ) (h1 : 1 ≤ n) (h2 : n ≤ 254) :
    Ideal.ofBits .f32 (BitVec.ofNat 32 n * 8388608#32) = (((2 : ℝ) ^ ((n : ℤ) - 127) : ℝ) : EReal) := by
  have key : ∀ m : Fin 255,
      (BitVec.ofNat 32 m.val * 8388608#32).extractLsb' 31 1 = 0#1
        ∧ ((BitVec.ofNat 32 m.val * 8388608#32).extractLsb' 23 8).toNat = m.val
        ∧ ((BitVec.ofNat 32 m.val * 8388608#32).extractLsb' 0 23).toNat = 0 := by decide +kernel
  obtain ⟨hs, he, hf⟩ := key ⟨n, by omega⟩
  simp only at hs he hf
  show Ideal.ieee 8 23 _ = _
  unfold Ideal.ieee
  simp only [Nat.reduceAdd, hs, he, hf]
  rw [if_neg (by omega), if_neg (by omega)]
  congr 1
  simp only [show ((0#1 : BitVec 1) == 1#1) = false from rfl, Bool.false_eq_true, if_false]
  have e : ((n : ℤ) - (2 ^ (8 - 1) - 1 : ℤ) - (23 : ℕ)) = ((n : ℤ) - 127) - 23 := by norm_num
  rw [e, zpow_sub₀ (by norm_num)]
  push_cast
  field_simp
  norm_num

/-- How many of the powers `2^-126, …, 2^121` do not exceed `t`. -/
def powCount (t : EReal) : ℕ :=
  (Finset.univ.filter fun k : Fin 248 => (((2 : ℝ) ^ ((k.val : ℤ) - 126) : ℝ) : EReal) ≤ t).card

/-- There are 248 powers to count. -/
theorem powCount_le (t : EReal) : powCount t ≤ 248 := by
  unfold powCount
  exact (Finset.card_le_univ _).trans (by simp)

/-- The number of indices below 248 that are at most `f + 126`. -/
theorem card_le_int (f : ℤ) :
    (Finset.univ.filter fun k : Fin 248 => (k.val : ℤ) - 126 ≤ f).card = (min 248 (max 0 (f + 127))).toNat := by
  have h : (Finset.univ.filter fun k : Fin 248 => (k.val : ℤ) - 126 ≤ f).card
      = ((Finset.range 248).filter fun k : ℕ => (k : ℤ) - 126 ≤ f).card := by
    rw [← Finset.card_map Fin.valEmbedding]
    congr 1
    ext k
    simp only [Finset.mem_map, Finset.mem_filter, Finset.mem_univ, true_and, Finset.mem_range, Fin.valEmbedding_apply]
    constructor
    · rintro ⟨a, ha, rfl⟩; exact ⟨a.isLt, ha⟩
    · rintro ⟨hk, ha⟩; exact ⟨⟨k, hk⟩, ha, rfl⟩
  rw [h]
  have h2 : ((Finset.range 248).filter fun k : ℕ => (k : ℤ) - 126 ≤ f)
      = Finset.range (min 248 (max 0 (f + 127))).toNat := by
    ext k
    simp only [Finset.mem_filter, Finset.mem_range]
    omega
  rw [h2, Finset.card_range]

/-- The exponent of the plain formula: the floor of the base-two logarithm of `t`, plus one, clipped. -/
def exponent (t : EReal) : EReal :=
  min ((122 : ℝ) : EReal) (max ((-126 : ℝ) : EReal)
    (Ideal.liftRound Int.floor (Ideal.div (Ideal.log t) ((Real.log 2 : ℝ) : EReal)) + ((1 : ℝ) : EReal)))

/-- The plain formula's exponent is the count less 126. -/
theorem exponent_eq (t : EReal) : exponent t = (((powCount t : ℤ) - 126 : ℝ) : EReal) := by
  have hl2 : 0 < Real.log 2 := Real.log_pos (by norm_num)
  have bot : ∀ s : EReal, (∀ k : Fin 248, ¬ (((2 : ℝ) ^ ((k.val : ℤ) - 126) : ℝ) : EReal) ≤ s) → Ideal.log s = ⊥ →
      exponent s = (((powCount s : ℤ) - 126 : ℝ) : EReal) := by
    intro s hs hb
    have c0 : powCount s = 0 := by
      unfold powCount; rw [Finset.card_eq_zero, Finset.filter_eq_empty_iff]; exact fun k _ => hs k
    unfold exponent
    rw [hb, c0]
    have : Ideal.div ⊥ ((Real.log 2 : ℝ) : EReal) = ⊥ := by
      unfold Ideal.div
      rw [if_neg (by simpa using hl2.ne'), ← EReal.coe_inv]
      exact EReal.bot_mul_coe_of_pos (inv_pos.2 hl2)
    rw [this]
    show min _ (max _ ((⊥ : EReal) + _)) = _
    rw [EReal.bot_add, max_eq_left bot_le, ← EReal.coe_strictMono.monotone.map_min]
    norm_num
  induction t using EReal.rec with
  | bot =>
    refine bot _ (fun k h => ?_) rfl
    exact absurd (le_bot_iff.1 h) (EReal.coe_ne_bot _)
  | top =>
    have c0 : powCount ⊤ = 248 := by
      unfold powCount; simp
    unfold exponent
    rw [c0]
    have : Ideal.div (Ideal.log ⊤) ((Real.log 2 : ℝ) : EReal) = ⊤ := by
      show Ideal.div ⊤ _ = _
      unfold Ideal.div
      rw [if_neg (by simpa using hl2.ne'), ← EReal.coe_inv]
      exact EReal.top_mul_coe_of_pos (inv_pos.2 hl2)
    rw [this]
    show min _ (max _ ((⊤ : EReal) + _)) = _
    rw [EReal.top_add_coe, max_eq_right le_top, min_eq_left le_top]
    norm_num
  | coe r =>
    rcases le_or_gt r 0 with hr | hr
    · refine bot _ (fun k h => ?_) ?_
      · have hp : (0 : ℝ) < (2 : ℝ) ^ ((k.val : ℤ) - 126) := by positivity
        exact absurd (EReal.coe_le_coe_iff.1 h) (by linarith)
      · show (if r ≤ 0 then (⊥ : EReal) else _) = ⊥
        rw [if_pos hr]
    · have hlog : Ideal.log ((r : ℝ) : EReal) = ((Real.log r : ℝ) : EReal) := by
        show (if r ≤ 0 then (⊥ : EReal) else _) = _
        rw [if_neg (not_le.2 hr)]
      have hdiv : Ideal.div ((Real.log r : ℝ) : EReal) ((Real.log 2 : ℝ) : EReal)
          = ((Real.log r / Real.log 2 : ℝ) : EReal) := by
        unfold Ideal.div
        rw [if_neg (by simpa using hl2.ne'), ← EReal.coe_inv, ← EReal.coe_mul, div_eq_mul_inv]
      set f : ℤ := ⌊Real.log r / Real.log 2⌋ with hf
      have hc : powCount ((r : ℝ) : EReal) = (min 248 (max 0 (f + 127))).toNat := by
        rw [← card_le_int f]
        unfold powCount
        congr 1
        ext k
        simp only [Finset.mem_filter, Finset.mem_univ, true_and]
        rw [EReal.coe_le_coe_iff, hf, Int.le_floor, le_div_iff₀ hl2, ← Real.log_zpow,
          Real.log_le_log_iff (by positivity) hr]
      unfold exponent
      rw [hlog, hdiv]
      show min _ (max _ (((f : ℝ) : EReal) + _)) = _
      rw [← EReal.coe_add, ← EReal.coe_strictMono.monotone.map_max, ← EReal.coe_strictMono.monotone.map_min, hc]
      congr 1
      have : ((min 248 (max 0 (f + 127))).toNat : ℤ) = min 122 (max (-126) (f + 1)) + 126 := by omega
      rw [this]
      push_cast
      ring

/-- The scale of the plain formula is the power of two the program forms. -/
theorem exp2_exponent (t : EReal) :
    Ideal.exp2 (exponent t) = (((2 : ℝ) ^ ((powCount t : ℤ) - 126) : ℝ) : EReal) := by
  rw [exponent_eq]
  show ((Real.rpow 2 _ : ℝ) : EReal) = _
  congr 1
  have : (((powCount t : ℤ) : ℝ) - 126) = (((powCount t : ℤ) - 126 : ℤ) : ℝ) := by push_cast; ring
  rw [this]
  exact Real.rpow_intCast 2 _

/-- So is its inverse. -/
theorem exp2_neg_exponent (t : EReal) :
    Ideal.exp2 (((0 : ℝ) : EReal) - exponent t) = (((2 : ℝ) ^ (126 - (powCount t : ℤ)) : ℝ) : EReal) := by
  rw [exponent_eq, ← EReal.coe_sub]
  show ((Real.rpow 2 _ : ℝ) : EReal) = _
  congr 1
  have : ((0 : ℝ) - (((powCount t : ℤ) : ℝ) - 126)) = ((126 - (powCount t : ℤ) : ℤ) : ℝ) := by push_cast; ring
  rw [this]
  exact Real.rpow_intCast 2 _

/-- The word the program forms from a count `c`: the count plus one in the exponent field. -/
theorem ofBits_up (t : EReal) :
    Ideal.ofBits .f32 (BitVec.ofNat 32 (powCount t) * 8388608#32 + 8388608#32) = Ideal.exp2 (exponent t) := by
  have h := powCount_le t
  have e : BitVec.ofNat 32 (powCount t) * 8388608#32 + 8388608#32
      = BitVec.ofNat 32 (powCount t + 1) * 8388608#32 := by
    rw [BitVec.ofNat_add, BitVec.add_mul]; rfl
  rw [e, ofBits_exponent _ (by omega) (by omega), exp2_exponent]
  congr 2
  push_cast; ring

/-- The word of the inverse: 254 less the scale's exponent field. -/
theorem ofBits_down (t : EReal) :
    Ideal.ofBits .f32 (2130706432#32 - (BitVec.ofNat 32 (powCount t) * 8388608#32 + 8388608#32))
      = Ideal.exp2 (((0 : ℝ) : EReal) - exponent t) := by
  have h := powCount_le t
  have key : ∀ m : Fin 249, 2130706432#32 - (BitVec.ofNat 32 m.val * 8388608#32 + 8388608#32)
      = BitVec.ofNat 32 (253 - m.val) * 8388608#32 := by decide +kernel
  have e := key ⟨powCount t, by omega⟩
  simp only at e
  rw [e, ofBits_exponent _ (by omega) (by omega), exp2_neg_exponent]
  congr 2
  omega

end Cert.Down

end
-- ==== Proof.Spec.lean ====
module

public import Idealize.ShloMosaic.PureOps
public import Idealize.ShloMosaic.PureOps.Ideal
public import proofs.«01_k».proof.Proof.Scale

@[expose] public section

/-! # What the down projection computes, one token at a time

A token is a row `h` of 7168 extended reals.  Each definition below is one step of the computation as plain
mathematics; none of them names a program.  The literals are the single-precision constants that both programs
print. -/

noncomputable section

namespace Cert.Down

open Idealize.ShloMosaic

/-- The constant added to a mean of squares. -/
def eps : EReal := Ideal.ofBits .f32 0x358637BD#32

/-- The constant `1/448` in single precision. -/
def c448 : EReal := Ideal.ofBits .f32 0x3B124925#32

/-- The least code. -/
def lo : EReal := Ideal.ofBits .f32 0xC3E00000#32

/-- The greatest code. -/
def hi : EReal := Ideal.ofBits .f32 0x43E00000#32

/-- Entry `l` of block `b`. -/
def blk (b : Fin 56) (l : Fin 128) : Fin 7168 := ⟨b.val * 128 + l.val, by omega⟩

/-- The block that entry `k` lies in. -/
def blkOf (k : Fin 7168) : Fin 56 := ⟨k.val / 128, by omega⟩

/-- The reciprocal root of the mean square of a row of 7168 entries. -/
def rinv (h : Fin 7168 → EReal) : EReal := Ideal.rsqrt ((∑ k, h k * h k) * ((1 / 7168 : ℝ) : EReal) + eps)

/-- The normalised row: the row over its root mean square, times the weights. -/
def xn (h g : Fin 7168 → EReal) (k : Fin 7168) : EReal := h k * rinv h * g k

/-- The largest magnitude in block `b` of a row. -/
def amax (v : Fin 7168 → EReal) (b : Fin 56) : EReal :=
  Finset.univ.fold max ⊥ fun l : Fin 128 => max (v (blk b l)) (-(v (blk b l)))

/-- The scale of a block whose largest magnitude is `a`. -/
def scale (a : EReal) : EReal := if a = 0 then 1 else Ideal.exp2 (exponent (a * c448))

/-- The inverse of that scale. -/
def inv (a : EReal) : EReal := if a = 0 then 1 else Ideal.exp2 (((0 : ℝ) : EReal) - exponent (a * c448))

/-- The code of an entry `x` of a block whose largest magnitude is `a`. -/
def code (x a : EReal) : EReal := min hi (max lo (x * inv a))

/-- The codes of a row. -/
def codes (v : Fin 7168 → EReal) (k : Fin 7168) : EReal := code (v k) (amax v (blkOf k))

/-- The codes of a row, times their scales. -/
def deq (v : Fin 7168 → EReal) (k : Fin 7168) : EReal := codes v k * scale (amax v (blkOf k))

/-- One entry of a row's projection by a weight row `w`. -/
def proj (u w : Fin 7168 → EReal) : EReal := ∑ k, u k * w k

/-- The normalised latent: the first 512 entries `y` of the projection over their root mean square, times the
    weights. -/
def latent (y g : Fin 512 → EReal) (o : Fin 512) : EReal :=
  y o * Ideal.rsqrt ((∑ p, y p * y p) * ((1 / 512 : ℝ) : EReal) + eps) * g o

/-! ## The constants -/

/-- The bits of one. -/
theorem ofBits_one : Ideal.ofBits .f32 0x3F800000#32 = ((1 : ℝ) : EReal) := by
  simp [Ideal.ofBits, Ideal.ieee, -EReal.coe_mul]; norm_num

/-- The bits of zero. -/
theorem ofBits_zero : Ideal.ofBits .f32 0x00000000#32 = ((0 : ℝ) : EReal) := by
  simp [Ideal.ofBits, Ideal.ieee]

/-- The bits of negative infinity. -/
theorem ofBits_bot : Ideal.ofBits .f32 0xFF800000#32 = ⊥ := by
  simp [Ideal.ofBits, Ideal.ieee]

/-- The bits of 7168. -/
theorem ofBits_7168 : Ideal.ofBits .f32 0x45E00000#32 = ((7168 : ℝ) : EReal) := by
  simp [Ideal.ofBits, Ideal.ieee, -EReal.coe_mul]; norm_num

/-- The bits of 512. -/
theorem ofBits_512 : Ideal.ofBits .f32 0x44000000#32 = ((512 : ℝ) : EReal) := by
  simp [Ideal.ofBits, Ideal.ieee, -EReal.coe_mul]; norm_num

/-- The bits of 1/512. -/
theorem ofBits_512th : Ideal.ofBits .f32 0x3B000000#32 = ((1 / 512 : ℝ) : EReal) := by
  simp [Ideal.ofBits, Ideal.ieee, -EReal.coe_mul]; norm_num

/-- The bits of 122. -/
theorem ofBits_122 : Ideal.ofBits .f32 0x42F40000#32 = ((122 : ℝ) : EReal) := by
  simp [Ideal.ofBits, Ideal.ieee, -EReal.coe_mul]; norm_num

/-- The bits of -126. -/
theorem ofBits_neg126 : Ideal.ofBits .f32 0xC2FC0000#32 = ((-126 : ℝ) : EReal) := by
  simp [Ideal.ofBits, Ideal.ieee, -EReal.coe_mul]; norm_num

/-- The constant `1/448` is not zero. -/
theorem c448_ne : c448 ≠ 0 := by
  have : c448 = ((9586981 * 2 ^ (-32 : ℤ) : ℝ) : EReal) := by
    unfold c448
    simp [Ideal.ofBits, Ideal.ieee, -EReal.coe_mul]
  rw [this]
  intro h
  have := EReal.coe_eq_zero.1 h
  norm_num at this

/-- A magnitude times `1/448` is zero exactly when the magnitude is. -/
theorem mul_c448_eq_zero (a : EReal) : a * c448 = 0 ↔ a = 0 := by
  rw [mul_eq_zero]
  exact ⟨fun h => h.resolve_right c448_ne, Or.inl⟩

/-- Two raised to zero is one. -/
theorem exp2_zero : Ideal.exp2 0 = 1 := by
  show ((Real.rpow 2 0 : ℝ) : EReal) = 1
  simp

end Cert.Down

end
-- ==== Proof.Blocks.lean ====
module

public import proofs.«01_k».proof.Proof.Gen.KernelIdeal.Skeleton
public import proofs.«01_k».proof.Proof.Spec
public import Idealize.ShloMosaic.Lib.Pointwise
public import Idealize.ShloMosaic.Lib.IndicatorCount

@[expose] public section

set_option maxRecDepth 16384

/-! # The steps of the kernel's body

The kernel's body repeats a few steps, one for each block of 128 columns and each half of 128 tokens.  Each step is
defined here once, as a function of the blocks that it reads, and then read at one index. -/

noncomputable section

namespace Cert.KernelIdeal.Steps

open Idealize.ShloMosaic Idealize.ShloMosaic.Pointwise Cert.Down Idealize.ShloMosaic.IndicatorCount
open Cert.KernelIdeal Cert.KernelIdeal.Gen

section Defs

variable {F : FTy → Type} [FloatOps F] [Named F]

/-- The sum of two blocks. -/
def hB (a b : Vec F S128x128 .bf16) : FVec F S128x128 .bf16 :=
  addf (shapeCast S128x128 a shapeCasts_S128x128_S128x128 : FVec F S128x128 .bf16)
    (shapeCast S128x128 b shapeCasts_S128x128_S128x128)

/-- The sum of two blocks, transposed. -/
def hT (a b : Vec F S128x128 .bf16) : FVec F S128x128 .bf16 :=
  transpose S128x128 [1, 0] (hB a b) transposes_S128x128_p1_0_S128x128

/-- The squares of a block, summed over groups of eight rows. -/
def sqB (u : FVec F S128x128 .bf16) : FVec F S8x128 .f32 :=
  multiReduction .add [0] S8x128
    (shapeCast S16x8x128 (mulf (extf .f32 u bitsLt_bf16_f32) (extf .f32 u bitsLt_bf16_f32)) shapeCasts_S128x128_S16x8x128)
    0x00000000#32 reduces_S16x8x128_S8x128 (.inl rfl) rfl

/-- The reciprocal root of the mean square of each column, from the eight partial sums. -/
def rB (s : FVec F S8x128 .f32) : FVec F S1x128 .f32 :=
  rsqrt (addf (mulf (shapeCast S1x128 (multiReduction .add [0] S128 s 0x00000000#32 reduces_S8x128_S128 (.inl rfl) rfl)
      shapeCasts_S128_S1x128) (broadcast S1x128 (Named.named κ "one_7168th" 0x39124925#32)))
    (broadcast S1x128 (Scalar.ofBits .f32 0x358637BD#32)))

/-- The normalised block. -/
def xnB (u : FVec F S128x128 .bf16) (r : FVec F S1x128 .f32) (g : Vec F S128x128 .f32) : FVec F S128x128 .f32 :=
  mulf (mulf (extf .f32 u bitsLt_bf16_f32) (broadcastTo S128x128 r broadcasts_S1x128_S128x128)) g

/-- The largest magnitude of each column, over 448. -/
def tB (x : FVec F S128x128 .f32) : FVec F S1x128 .f32 :=
  mulf (shapeCast S1x128 (multiReduction .maximumf [0] S128 (absf x) 0xFF800000#32 reduces_S128x128_S128 (.inl rfl) rfl)
    shapeCasts_S128_S1x128) (broadcast S1x128 (Scalar.ofBits .f32 0x3B124925#32))

/-- The bits of the scale: one more than the number of powers of two that are at most the value, in the place of the
    exponent. -/
def upB (t : FVec F S1x128 .f32) : IVec S1x128 32 :=
  addi (muli (shapeCast S1x128
      (multiReductionI .add [0] S128
        (extui 32 (cmpf .oge (broadcastTo S248x128 t broadcasts_S1x128_S248x128)
          (bitcastToFloat .f32 (muli (addi (iota .tc S248x128 32 [0] iota_S248x128_d0_w32) (broadcast S248x128 1#32))
            (broadcast S248x128 8388608#32)))) natLt_1_32)
        0#32 reduces_S248x128_S128 rfl) shapeCasts_S128_S1x128)
    (broadcast S1x128 8388608#32)) (broadcast S1x128 8388608#32)

/-- Which columns are all zeros. -/
def zeroB (t : FVec F S1x128 .f32) : IVec S1x128 1 :=
  cmpf .oeq t (broadcast S1x128 (Scalar.ofBits .f32 0x00000000#32))

/-- The scale of each column of a block. -/
def scaleB (x : FVec F S128x128 .f32) : FVec F S1x128 .f32 :=
  select (zeroB (tB x)) (broadcast S1x128 (Scalar.ofBits .f32 0x3F800000#32)) (bitcastToFloat .f32 (upB (tB x)))

/-- The inverse of that scale. -/
def invB (x : FVec F S128x128 .f32) : FVec F S1x128 .f32 :=
  select (zeroB (tB x)) (broadcast S1x128 (Scalar.ofBits .f32 0x3F800000#32))
    (bitcastToFloat .f32 (subi (broadcast S1x128 2130706432#32) (upB (tB x))))

/-- The codes of a block. -/
def cB (x : FVec F S128x128 .f32) : FVec F S128x128 .bf16 :=
  extf .bf16 (truncf .fp8e4m3 (minimumf (broadcast S128x128 (Scalar.ofBits .f32 0x43E00000#32))
    (maximumf (broadcast S128x128 (Scalar.ofBits .f32 0xC3E00000#32))
      (mulf x (broadcastTo S128x128 (invB x) broadcasts_S1x128_S128x128)))) bitsLt_fp8e4m3_f32) bitsLt_fp8e4m3_bf16

/-- The codes of a block, transposed back. -/
def qB (x : FVec F S128x128 .f32) : FVec F S128x128 .fp8e4m3 :=
  truncf .fp8e4m3 (transpose S128x128 [1, 0] (cB x) transposes_S128x128_p1_0_S128x128) bitsLt_fp8e4m3_bf16

/-- The scales of a block, as stored. -/
def sB (x : FVec F S128x128 .f32) : FVec F S1x128 .f32 := shapeCast S1x128 (scaleB x) shapeCasts_S1x128_S1x128

/-- The codes of a block times their scales. -/
def xbB (x : FVec F S128x128 .f32) : FVec F S128x128 .bf16 :=
  mulf (cB x) (broadcastTo S128x128 (truncf .bf16 (scaleB x) bitsLt_bf16_f32) broadcasts_S1x128_S128x128)

/-- One chunk of the projection: 256 columns of the weight times two blocks of codes for each half. -/
def chunkB (w : Vec F S576x256 .bf16) (x00 x10 x01 x11 : FVec F S128x128 .f32) : FVec F S576x256 .f32 :=
  matmul dot_S576x256_S256x256_S576x256_1_0_0_1_n_n none w
    (concatenate S256x256 1
      [⟨S256x128, concatenate S256x128 0 [⟨S128x128, xbB x00⟩, ⟨S128x128, xbB x10⟩] concatenates_S128x128_S128x128_S256x128_d0⟩,
       ⟨S256x128, concatenate S256x128 0 [⟨S128x128, xbB x01⟩, ⟨S128x128, xbB x11⟩] concatenates_S128x128_S128x128_S256x128_d0⟩]
      concatenates_S256x128_S256x128_S256x256_d1)
    (constant S576x256 .f32 0x00000000#32)

end Defs

/-- An entry of the residual sum. -/
theorem hB_apply (a b : Vec Ideal S128x128 .bf16) (i l : Fin 128) :
    hB a b (ix2 i l) = a (ix2 i l) + b (ix2 i l) := by
  pointwise [hB]

/-- An entry of the transposed residual sum. -/
theorem hT_apply (a b : Vec Ideal S128x128 .bf16) (l i : Fin 128) :
    hT a b (ix2 l i) = a (ix2 i l) + b (ix2 i l) := by
  pointwise [hT, hB]

/-- An entry of the partial sums of squares: 128 entries summed in sixteen groups of eight. -/
theorem sqB_apply (u : FVec Ideal S128x128 .bf16) (s : Fin 8) (i : Fin 128) :
    sqB u (ix2 s i) = ∑ g : Fin 16, u (ix2 ⟨g.val * 8 + s.val, by omega⟩ i) * u (ix2 ⟨g.val * 8 + s.val, by omega⟩ i) := by
  pointwise [sqB]

/-- The inverse root mean square of a column, from its eight partial sums. -/
theorem rB_apply (v : FVec Ideal S8x128 .f32) (i : Fin 128) :
    rB v (ix2 0 i) = Ideal.rsqrt ((∑ s, v (ix2 s i)) * ((1 / 7168 : ℝ) : EReal) + eps) := by
  pointwise [rB]
  rw [IdealRules.named_const.ideal_named_scalar _ _ _ _ rfl]
  rfl

/-- An entry of a normalised block. -/
theorem xnB_apply (u : FVec Ideal S128x128 .bf16) (r : FVec Ideal S1x128 .f32) (g : Vec Ideal S128x128 .f32) (l i : Fin 128) :
    xnB u r g (ix2 l i) = u (ix2 l i) * r (ix2 0 i) * g (ix2 l i) := by
  pointwise [xnB]

/-- The largest magnitude of a column, over 448. -/
theorem tB_apply (x : FVec Ideal S128x128 .f32) (i : Fin 128) :
    tB x (ix2 0 i) = (Finset.univ.fold max ⊥ fun l : Fin 128 => max (x (ix2 l i)) (-(x (ix2 l i)))) * c448 := by
  pointwise [tB]
  rw [ofBits_bot]
  rfl

/-- The powers of two that a value is compared with. -/
theorem pow_apply (k : Fin 248) (i : Fin 128) :
    (bitcastToFloat (F := Ideal) .f32 (muli (addi (iota .tc S248x128 32 [0] iota_S248x128_d0_w32) (broadcast S248x128 1#32))
            (broadcast S248x128 8388608#32))) (ix2 k i) = (((2 : ℝ) ^ ((k.val : ℤ) - 126) : ℝ) : EReal) := by
  have e := ofBits_exponent (k.val + 1) (by omega) (by omega)
  rw [show ((k.val + 1 : ℕ) : ℤ) - 127 = (k.val : ℤ) - 126 by push_cast; ring] at e
  rw [← e]
  show Ideal.ofBits .f32 ((iota .tc S248x128 32 [0] iota_S248x128_d0_w32 (ix2 k i) + 1#32) * 8388608#32) = _
  rw [iota_single_apply, BitVec.ofNat_add]
  rfl

/-- A decision read as one bit is one exactly when it holds. -/
theorem ofBool_eq_one (p : Prop) [Decidable p] : BitVec.ofBool (decide p) = 1#1 ↔ p := by
  by_cases h : p <;> simp [h]

/-- A choice by whether a magnitude over 448 is zero is the choice by whether the magnitude is. -/
theorem if_c448 {α : Type} (a : EReal) (x y : α) : (if a * c448 = 0 then x else y) = if a = 0 then x else y := by
  simp only [mul_c448_eq_zero]

/-- The number of powers that do not exceed the value of a column. -/
theorem count_apply (t : FVec Ideal S1x128 .f32) (P : FVec Ideal S248x128 .f32) (i : Fin 128)
    (hP : ∀ k : Fin 248, P (ix2 k i) = (((2 : ℝ) ^ ((k.val : ℤ) - 126) : ℝ) : EReal)) :
    shapeCast S1x128
      (multiReductionI .add [0] S128
        (extui 32 (cmpf .oge (broadcastTo S248x128 t broadcasts_S1x128_S248x128) P) natLt_1_32)
        0#32 reduces_S248x128_S128 rfl) shapeCasts_S128_S1x128 (ix2 0 i)
      = BitVec.ofNat 32 (powCount (t (ix2 0 i))) := by
  pointwise []
  simp only [hP]
  rw [fold_addi_setWidth_eq_card, powCount]
  congr 2
  refine Finset.filter_congr fun k _ => ?_
  rw [ofBool_eq_one]

/-- The bits of the scale of a column. -/
theorem upB_apply (t : FVec Ideal S1x128 .f32) (i : Fin 128) :
    upB t (ix2 0 i) = BitVec.ofNat 32 (powCount (t (ix2 0 i))) * 8388608#32 + 8388608#32 := by
  have e : ∀ C : IVec S1x128 32,
      addi (muli C (broadcast S1x128 8388608#32)) (broadcast S1x128 8388608#32) (ix2 0 i)
        = C (ix2 0 i) * 8388608#32 + 8388608#32 := fun _ => rfl
  exact (e _).trans (congrArg (fun z => z * 8388608#32 + 8388608#32) (count_apply t _ i fun k => pow_apply k i))

/-- The scale of a column. -/
theorem scaleB_apply (x : FVec Ideal S128x128 .f32) (i : Fin 128) (a : EReal) (h : tB x (ix2 0 i) = a * c448) :
    scaleB x (ix2 0 i) = scale a := by
  have hu := upB_apply (tB x) i
  unfold scaleB zeroB
  generalize upB (tB x) = U at hu ⊢
  generalize tB x = T at hu h ⊢
  pointwise []
  rw [hu, ofBits_up, h]
  exact if_c448 a _ _

/-- The inverse of the scale of a column. -/
theorem invB_apply (x : FVec Ideal S128x128 .f32) (i : Fin 128) (a : EReal) (h : tB x (ix2 0 i) = a * c448) :
    invB x (ix2 0 i) = Cert.Down.inv a := by
  have hu := upB_apply (tB x) i
  unfold invB zeroB
  generalize upB (tB x) = U at hu ⊢
  generalize tB x = T at hu h ⊢
  pointwise []
  rw [hu]
  show (if T (ix2 0 i) = 0 then (1 : EReal) else Ideal.ofBits .f32
    (2130706432#32 - (BitVec.ofNat 32 (powCount (T (ix2 0 i))) * 8388608#32 + 8388608#32))) = _
  rw [ofBits_down, h]
  exact if_c448 a _ _

/-- The code of an entry. -/
theorem cB_apply (x : FVec Ideal S128x128 .f32) (l i : Fin 128) (a : EReal) (h : tB x (ix2 0 i) = a * c448) :
    cB x (ix2 l i) = code (x (ix2 l i)) a := by
  have hi := invB_apply x i a h
  unfold cB
  generalize invB x = V at hi ⊢
  pointwise []
  rw [hi]
  rfl

/-- An entry of the stored codes is the code of the specification. -/
theorem qB_apply (x : FVec Ideal S128x128 .f32) (l i : Fin 128) (a : EReal) (h : tB x (ix2 0 i) = a * c448) :
    qB x (ix2 i l) = code (x (ix2 l i)) a := by
  have hc := cB_apply x l i a h
  unfold qB
  generalize cB x = V at hc ⊢
  pointwise []
  exact hc

/-- A stored scale is the scale of the specification. -/
theorem sB_apply (x : FVec Ideal S128x128 .f32) (i : Fin 128) (a : EReal) (h : tB x (ix2 0 i) = a * c448) :
    sB x (ix2 0 i) = scale a := by
  have hc := scaleB_apply x i a h
  unfold sB
  generalize scaleB x = V at hc ⊢
  pointwise []
  exact hc

/-- An entry of the codes times their scales, as the specification says it. -/
theorem xbB_apply (x : FVec Ideal S128x128 .f32) (l i : Fin 128) (a : EReal) (h : tB x (ix2 0 i) = a * c448) :
    xbB x (ix2 l i) = code (x (ix2 l i)) a * scale a := by
  have hc := cB_apply x l i a h
  have hs := scaleB_apply x i a h
  unfold xbB
  generalize cB x = V at hc ⊢
  generalize scaleB x = W at hs ⊢
  pointwise []
  rw [hc, hs]

/-- One chunk of the projection is the sum over its 256 columns. -/
theorem chunkB_apply (w : Vec Ideal S576x256 .bf16) (x00 x10 x01 x11 : FVec Ideal S128x128 .f32) (U : ℕ → ℕ → EReal)
    (h00 : ∀ l i : Fin 128, xbB x00 (ix2 l i) = U l.val i.val)
    (h10 : ∀ l i : Fin 128, xbB x10 (ix2 l i) = U (128 + l.val) i.val)
    (h01 : ∀ l i : Fin 128, xbB x01 (ix2 l i) = U l.val (128 + i.val))
    (h11 : ∀ l i : Fin 128, xbB x11 (ix2 l i) = U (128 + l.val) (128 + i.val)) (o : Fin 576) (i : Fin 256) :
    chunkB w x00 x10 x01 x11 (ix2 o i) = ∑ k : Fin 256, w (ix2 o k) * U k.val i.val := by
  unfold chunkB
  generalize xbB x00 = A at h00 ⊢
  generalize xbB x01 = B at h01 ⊢
  generalize xbB x10 = C at h10 ⊢
  generalize xbB x11 = D at h11 ⊢
  pointwise []
  rw [show (∑ k : Fin 256, w (ix2 o k) * U k.val i.val)
      = ∑ k : Fin (128 + 128), w (ix2 o k) * U k.val i.val from rfl, Fin.sum_univ_add]
  by_cases h : i.val < 128
  · simp only [dif_pos h, h00, h10]
    rfl
  · have e : 128 + (i.val - 128) = i.val := by omega
    simp only [dif_neg h, h01, h11, e]
    rfl

end Cert.KernelIdeal.Steps

end
-- ==== Proof.Rows.lean ====
module

public import proofs.«01_k».proof.Proof.Blocks
public import Idealize.ShloMosaic.Lib.Pipeline.ReadBack

@[expose] public section

set_option maxRecDepth 16384

/-! # The steps of the kernel's body, at a place in the whole arrays

The kernel's body handles blocks of 128 columns for each half of 128 tokens.  Each theorem here says what one step
gives when its blocks are taken at a place of the whole arrays.  The whole arrays are functions of two natural numbers,
zero outside their extents, so that a block at the offsets `a`, `b` is `f (a + i) (b + l)`. -/

noncomputable section

namespace Cert.KernelIdeal.Steps

open Idealize.ShloMosaic Idealize.ShloMosaic.Pointwise Cert.Down
open Cert.KernelIdeal Cert.KernelIdeal.Gen

/-- An array of two axes as a function of two natural numbers, zero outside. -/
def nat2 {m n : ℕ} (f : Fin m → Fin n → EReal) (i k : ℕ) : EReal :=
  if h : i < m ∧ k < n then f ⟨i, h.1⟩ ⟨k, h.2⟩ else 0

/-- At two indices of the array, the function is the array. -/
theorem nat2_val {m n : ℕ} (f : Fin m → Fin n → EReal) (i : Fin m) (k : Fin n) : nat2 f i.val k.val = f i k :=
  dif_pos ⟨i.isLt, k.isLt⟩

/-- At two numbers inside the extents, the function is the array. -/
theorem nat2_of_lt {m n : ℕ} (f : Fin m → Fin n → EReal) {i k : ℕ} (hi : i < m) (hk : k < n) :
    nat2 f i k = f ⟨i, hi⟩ ⟨k, hk⟩ := dif_pos ⟨hi, hk⟩

/-- The block `v` is `f` at the offsets `a`, `b`. -/
def At (f : ℕ → ℕ → EReal) (a b : ℕ) {p q : ℕ} (v : Shape.Idx ⟨2, ![p, q]⟩ → EReal) : Prop :=
  ∀ i l, v (ix2 i l) = f (a + i.val) (b + l.val)

/-- The transposed block `v` is `f` at the offsets `a`, `b`. -/
def AtT (f : ℕ → ℕ → EReal) (a b : ℕ) {p q : ℕ} (v : Shape.Idx ⟨2, ![q, p]⟩ → EReal) : Prop :=
  ∀ l i, v (ix2 l i) = f (a + i.val) (b + l.val)

/-- The largest magnitude in the block that starts at `b`. -/
def amaxN (X : ℕ → ℕ → EReal) (i b : ℕ) : EReal :=
  Finset.univ.fold max ⊥ fun l : Fin 128 => max (X i (b + l.val)) (-(X i (b + l.val)))

/-- The start of the block that `k` lies in. -/
def start (k : ℕ) : ℕ := k / 128 * 128

/-- A block that begins at a multiple of 128 is the block of each of its 128 places. -/
theorem start_add {b : ℕ} (hb : b % 128 = 0) (l : Fin 128) : start (b + l.val) = b := by
  unfold start; omega

/-- The codes of the array. -/
def codeN (X : ℕ → ℕ → EReal) (i k : ℕ) : EReal := code (X i k) (amaxN X i (start k))

/-- The codes of the array times their scales. -/
def deqN (X : ℕ → ℕ → EReal) (i k : ℕ) : EReal := codeN X i k * scale (amaxN X i (start k))

/-- The largest magnitude of a block at its place in the whole array. -/
theorem tB_at {X : ℕ → ℕ → EReal} {a b : ℕ} {x : FVec Ideal S128x128 .f32} (h : AtT X a b x) (i : Fin 128) :
    tB x (ix2 0 i) = amaxN X (a + i.val) b * c448 := by
  rw [tB_apply]
  unfold amaxN
  simp only [h _ i]

/-- The codes of a block. -/
theorem qB_at {X : ℕ → ℕ → EReal} {a b : ℕ} (hb : b % 128 = 0) {x : FVec Ideal S128x128 .f32} (h : AtT X a b x) :
    At (codeN X) a b (qB x) := fun i l => by
  rw [qB_apply x l i _ (tB_at h i), h l i, codeN, start_add hb]

/-- The scales of a block. -/
theorem sB_at {X : ℕ → ℕ → EReal} {a b : ℕ} {x : FVec Ideal S128x128 .f32} (h : AtT X a b x) (u : Fin 1) (i : Fin 128) :
    sB x (ix2 u i) = scale (amaxN X (a + i.val) b) := by
  rw [Subsingleton.elim u 0]
  exact sB_apply x i _ (tB_at h i)

/-- The codes of a block times their scales. -/
theorem xbB_at {X : ℕ → ℕ → EReal} {a b : ℕ} (hb : b % 128 = 0) {x : FVec Ideal S128x128 .f32} (h : AtT X a b x) :
    AtT (deqN X) a b (xbB x) := fun l i => by
  rw [xbB_apply x l i _ (tB_at h i), h l i, deqN, codeN, start_add hb]

/-- The row of reciprocal roots `r` is `R` at the offset `a`. -/
structure RowAt (R : ℕ → EReal) (a : ℕ) (r : FVec Ideal S1x128 .f32) : Prop where
  val : ∀ i : Fin 128, r (ix2 0 i) = R (a + i.val)

/-- The normalised block. -/
theorem xnB_at {H : ℕ → ℕ → EReal} {R : ℕ → EReal} {g : ℕ → EReal} {a b : ℕ} {u : FVec Ideal S128x128 .bf16}
    {r : FVec Ideal S1x128 .f32} {w : Vec Ideal S128x128 .f32} (hu : AtT H a b u) (hr : RowAt R a r)
    (hw : AtT (fun _ k => g k) a b w) : AtT (fun i k => H i k * R i * g k) a b (xnB u r w) := fun l i => by
  rw [xnB_apply, hu l i, hr.val i, hw l i]

/-- The sum of two blocks. -/
theorem hB_at {f g : ℕ → ℕ → EReal} {a b : ℕ} {u w : Vec Ideal S128x128 .bf16} (hu : At f a b u) (hw : At g a b w) :
    At (fun i k => f i k + g i k) a b (hB u w) := fun i l => by
  rw [hB_apply, hu i l, hw i l]

/-- The sum of two blocks, transposed. -/
theorem hT_at {f g : ℕ → ℕ → EReal} {a b : ℕ} {u w : Vec Ideal S128x128 .bf16} (hu : At f a b u) (hw : At g a b w) :
    AtT (fun i k => f i k + g i k) a b (hT u w) := fun l i => by
  rw [hT_apply, hu i l, hw i l]

/-- The partial sums after `n` blocks. -/
def Acc (H : ℕ → ℕ → EReal) (a n : ℕ) (s : FVec Ideal S8x128 .f32) : Prop := ∀ (u : Fin 8) (i : Fin 128),
  s (ix2 u i) = ∑ j ∈ Finset.range n, ∑ g : Fin 16,
    H (a + i.val) (j * 128 + (g.val * 8 + u.val)) * H (a + i.val) (j * 128 + (g.val * 8 + u.val))

/-- The squares of the first block are the partial sums after one block. -/
theorem acc_one {H : ℕ → ℕ → EReal} {a : ℕ} {v : FVec Ideal S128x128 .bf16} (h : AtT H a 0 v) : Acc H a 1 (sqB v) :=
  fun u i => by
    rw [sqB_apply, Finset.sum_range_one]
    refine Finset.sum_congr rfl fun g _ => ?_
    rw [h _ i, Nat.zero_mul]

/-- Adding the squares of block `n` gives the partial sums after `n + 1` blocks. -/
theorem acc_step {H : ℕ → ℕ → EReal} {a n b : ℕ} {s : FVec Ideal S8x128 .f32} {v : FVec Ideal S128x128 .bf16}
    (hs : Acc H a n s) (hb : b = n * 128) (h : AtT H a b v) : Acc H a (n + 1) (addf s (sqB v)) := fun u i => by
  subst hb
  show s (ix2 u i) + sqB v (ix2 u i) = _
  rw [sqB_apply, hs u i, Finset.sum_range_succ]
  exact congrArg _ (Finset.sum_congr rfl fun g _ => by rw [h _ i])

/-- The partial sums of all 56 blocks add up to the sum over the row. -/
theorem acc_total (f : ℕ → EReal) :
    ∑ u : Fin 8, ∑ j ∈ Finset.range 56, ∑ g : Fin 16, f (j * 128 + (g.val * 8 + u.val)) = ∑ k : Fin 7168, f k.val := by
  have e : ∑ k : Fin (56 * 128), f k.val = ∑ j : Fin 56, ∑ l : Fin (16 * 8), f (j.val * 128 + l.val) := by
    rw [← Fintype.sum_prod_type', ← Equiv.sum_comp (finProdFinEquiv (m := 56) (n := 128))]
    refine Finset.sum_congr rfl fun x _ => congrArg f ?_
    show x.2.val + 128 * x.1.val = _
    omega
  have e' : ∀ j : ℕ, ∑ l : Fin (16 * 8), f (j * 128 + l.val) = ∑ g : Fin 16, ∑ u : Fin 8, f (j * 128 + (g.val * 8 + u.val)) := by
    intro j
    rw [← Fintype.sum_prod_type', ← Equiv.sum_comp (finProdFinEquiv (m := 16) (n := 8))]
    refine Finset.sum_congr rfl fun x _ => congrArg f ?_
    show j * 128 + (x.2.val + 8 * x.1.val) = _
    omega
  rw [Finset.sum_comm, Finset.sum_range]
  refine Eq.trans ?_ e.symm
  refine Finset.sum_congr rfl fun j _ => ?_
  rw [e', Finset.sum_comm]

/-- The reciprocal root of the mean square of a row. -/
def rinvN (H : ℕ → ℕ → EReal) (i : ℕ) : EReal :=
  Ideal.rsqrt ((∑ k : Fin 7168, H i k.val * H i k.val) * ((1 / 7168 : ℝ) : EReal) + eps)

/-- The partial sums after all 56 blocks give the inverse root mean square of each row. -/
theorem rB_at {H : ℕ → ℕ → EReal} {a : ℕ} {s : FVec Ideal S8x128 .f32} (h : Acc H a 56 s) : RowAt (rinvN H) a (rB s) :=
  ⟨fun i => by
    rw [rB_apply, rinvN, ← acc_total fun k => H (a + i.val) k * H (a + i.val) k]
    simp only [h _ i]⟩

/-- The projection after `n` chunks of 256 columns. -/
def AccY (W : ℕ → ℕ → EReal) (D : ℕ → ℕ → EReal) (n : ℕ) (y : FVec Ideal S576x256 .f32) : Prop :=
  ∀ (o : Fin 576) (i : Fin 256),
    y (ix2 o i) = ∑ c ∈ Finset.range n, ∑ k : Fin 256, W o.val (c * 256 + k.val) * D i.val (c * 256 + k.val)

/-- One chunk of the projection is the sum over its 256 columns of weights times codes times scales. -/
theorem chunk_at {W X : ℕ → ℕ → EReal} {b b' : ℕ} {w : Vec Ideal S576x256 .bf16}
    {x00 x10 x01 x11 : FVec Ideal S128x128 .f32} (hb : b % 128 = 0) (hb' : b' = b + 128) (hw : At W 0 b w)
    (h00 : AtT X 0 b x00) (h10 : AtT X 0 b' x10) (h01 : AtT X 128 b x01) (h11 : AtT X 128 b' x11)
    (o : Fin 576) (i : Fin 256) :
    chunkB w x00 x10 x01 x11 (ix2 o i) = ∑ k : Fin 256, W o.val (b + k.val) * deqN X i.val (b + k.val) := by
  subst hb'
  have hb1 : (b + 128) % 128 = 0 := by omega
  rw [chunkB_apply w x00 x10 x01 x11 (fun k i => deqN X i (b + k))
    (fun l i => by rw [xbB_at hb h00 l i, Nat.zero_add])
    (fun l i => by rw [xbB_at hb1 h10 l i, Nat.zero_add, Nat.add_assoc])
    (fun l i => xbB_at hb h01 l i)
    (fun l i => by rw [xbB_at hb1 h11 l i, Nat.add_assoc]) o i]
  exact Finset.sum_congr rfl fun k _ => by rw [hw o k, Nat.zero_add]

/-- The first chunk is the partial projection after one chunk. -/
theorem accY_one {W X : ℕ → ℕ → EReal} {w : Vec Ideal S576x256 .bf16}
    {x00 x10 x01 x11 : FVec Ideal S128x128 .f32} (hw : At W 0 0 w)
    (h00 : AtT X 0 0 x00) (h10 : AtT X 0 128 x10) (h01 : AtT X 128 0 x01) (h11 : AtT X 128 128 x11) :
    AccY W (deqN X) 1 (chunkB w x00 x10 x01 x11) := fun o i => by
  rw [chunk_at rfl rfl hw h00 h10 h01 h11 o i, Finset.sum_range_one, Nat.zero_mul]

/-- Adding chunk `n` gives the partial projection after `n + 1` chunks. -/
theorem accY_step {W X : ℕ → ℕ → EReal} {n b b' : ℕ} {y : FVec Ideal S576x256 .f32} {w : Vec Ideal S576x256 .bf16}
    {x00 x10 x01 x11 : FVec Ideal S128x128 .f32} (hy : AccY W (deqN X) n y) (hb : b = n * 256) (hb' : b' = b + 128)
    (hw : At W 0 b w) (h00 : AtT X 0 b x00) (h10 : AtT X 0 b' x10) (h01 : AtT X 128 b x01) (h11 : AtT X 128 b' x11) :
    AccY W (deqN X) (n + 1) (addf y (chunkB w x00 x10 x01 x11)) := fun o i => by
  show y (ix2 o i) + chunkB w x00 x10 x01 x11 (ix2 o i) = _
  rw [chunk_at (by omega) hb' hw h00 h10 h01 h11 o i, hy o i, Finset.sum_range_succ, hb]

/-- All 28 chunks add up to the sum over the row. -/
theorem accY_total (f : ℕ → EReal) :
    ∑ c ∈ Finset.range 28, ∑ k : Fin 256, f (c * 256 + k.val) = ∑ k : Fin 7168, f k.val := by
  have e : ∑ k : Fin (28 * 256), f k.val = ∑ j : Fin 28, ∑ l : Fin 256, f (j.val * 256 + l.val) := by
    rw [← Fintype.sum_prod_type', ← Equiv.sum_comp (finProdFinEquiv (m := 28) (n := 256))]
    refine Finset.sum_congr rfl fun x _ => congrArg f ?_
    show x.2.val + 256 * x.1.val = _
    omega
  rw [Finset.sum_range]
  exact e.symm

/-- A load of a block of a whole array. -/
theorem load_apply {sp : Space} {e : EltTy} {m n p q : ℕ} (M : Memref sig .tc sp ⟨2, ![m, n]⟩ e) (h : M.IsWhole)
    (x : Vec Ideal ⟨2, ![m, n]⟩ e) (a b : ℕ) (inb : ∀ d, ![a, b] d + ![p, q] d ≤ ![m, n] d)
    (v : Vec Ideal ⟨2, ![p, q]⟩ e)
    (hv : v = View.readAt (Elt Ideal) M.view (Rect.unit ![a, b] ![p, q] inb).toLoadRect (h.unread x))
    (i : Fin p) (l : Fin q) :
    v (ix2 i l) = x (ix2 ⟨a + i.val, by have := inb 0; simp at this; omega⟩ ⟨b + l.val, by have := inb 1; simp at this; omega⟩) := by
  rw [hv, View.readAt_eq_ld, h.read_unread]
  show x _ = _
  refine congrArg x (funext fun d => ?_)
  match d with
  | ⟨0, _⟩ => exact Fin.ext (by show a + 1 * i.val = a + i.val; omega)
  | ⟨1, _⟩ => exact Fin.ext (by show b + 1 * l.val = b + l.val; omega)

/-- A load of a block of a whole array of 16-bit floats. -/
theorem load16 {m n p q : ℕ} (M : Memref sig .tc .vmem ⟨2, ![m, n]⟩ .bf16) (h : M.IsWhole)
    (x : Vec Ideal ⟨2, ![m, n]⟩ .bf16) {f : ℕ → ℕ → EReal} (hx : ∀ i k, x (ix2 i k) = f i.val k.val) (a b : ℕ) (inb : ∀ d, ![a, b] d + ![p, q] d ≤ ![m, n] d)
    (v : Vec Ideal ⟨2, ![p, q]⟩ .bf16)
    (hv : v = View.readAt (Elt Ideal) M.view (Rect.unit ![a, b] ![p, q] inb).toLoadRect (h.unread x)) :
    At f a b v := fun i l => by
  rw [load_apply M h x a b inb v hv i l, hx]

/-- A load of a block of a whole array of 32-bit floats. -/
theorem load32 {m n p q : ℕ} (M : Memref sig .tc .vmem ⟨2, ![m, n]⟩ .f32) (h : M.IsWhole)
    (x : Vec Ideal ⟨2, ![m, n]⟩ .f32) {f : ℕ → ℕ → EReal} (hx : ∀ i k, x (ix2 i k) = f i.val k.val) (a b : ℕ) (inb : ∀ d, ![a, b] d + ![p, q] d ≤ ![m, n] d)
    (v : Vec Ideal ⟨2, ![p, q]⟩ .f32)
    (hv : v = View.readAt (Elt Ideal) M.view (Rect.unit ![a, b] ![p, q] inb).toLoadRect (h.unread x)) :
    At f a b v := fun i l => by
  rw [load_apply M h x a b inb v hv i l, hx]

/-- A store of a block, as a piece of the array that it is stored to. -/
theorem piece_at {p q m n : ℕ} {f : ℕ → ℕ → EReal} {a b : ℕ} {v : Shape.Idx ⟨2, ![p, q]⟩ → EReal} (h : At f a b v)
    (inb : ∀ d, ![a, b] d + ![p, q] d ≤ ![m, n] d) (y : Shape.Idx ⟨2, ![p, q]⟩) :
    v y = (fun z : Shape.Idx ⟨2, ![m, n]⟩ => f (z 0).val (z 1).val)
      ((Rect.unit (s := ⟨2, ![m, n]⟩) ![a, b] ![p, q] inb).emb y) := by
  obtain ⟨i, l, rfl⟩ : ∃ i l, y = ix2 i l := ⟨y 0, y 1, eq_ix2 y⟩
  rw [h i l]
  show _ = f (a + 1 * i.val) (b + 1 * l.val)
  rw [Nat.one_mul, Nat.one_mul]

/-- A whole array of 16-bit floats as a function of two natural numbers. -/
def inN {m n : ℕ} (x : Vec Ideal ⟨2, ![m, n]⟩ .bf16) : ℕ → ℕ → EReal := nat2 fun i k => x (ix2 i k)

/-- Inside the extents, the function is the array. -/
theorem inN_val {m n : ℕ} (x : Vec Ideal ⟨2, ![m, n]⟩ .bf16) (i : Fin m) (k : Fin n) :
    x (ix2 i k) = inN x i.val k.val := (nat2_val (fun i k => x (ix2 i k)) i k).symm

/-- The sum of the two inputs. -/
def hN (x0 x1 : Vec Ideal S256x7168 .bf16) (i k : ℕ) : EReal := inN x0 i k + inN x1 i k

/-- The normalised sum. -/
def xN (x0 x1 : Vec Ideal S256x7168 .bf16) (g : ℕ → EReal) (i k : ℕ) : EReal :=
  hN x0 x1 i k * rinvN (hN x0 x1) i * g k

/-- A cast of a block to its own shape is the block. -/
theorem at_cast {f : ℕ → ℕ → EReal} {a b : ℕ} {v : Vec Ideal S128x128 .bf16} (h : At f a b v) :
    At f a b (shapeCast S128x128 v shapeCasts_S128x128_S128x128 : FVec Ideal S128x128 .bf16) := fun i l => by
  have e : (shapeCast S128x128 v shapeCasts_S128x128_S128x128 : FVec Ideal S128x128 .bf16) (ix2 i l) = v (ix2 i l) := by
    pointwise []
  rw [e, h i l]

/-- The transposed sum of two blocks, as a block of the transposed array. -/
theorem hT_at' {f g : ℕ → ℕ → EReal} {a b : ℕ} {u w : Vec Ideal S128x128 .bf16} (hu : At f a b u) (hw : At g a b w) :
    At (fun k i => f i k + g i k) b a (hT u w) := hT_at hu hw

/-- A load of a block of the weights of the normalisation, which are the same in all columns. -/
theorem loadG (M : Memref sig .tc .vmem S7168x128 .f32) (h : M.IsWhole) (x : Vec Ideal S7168x128 .f32) {g : ℕ → EReal}
    (hx : ∀ k i, x (ix2 k i) = g k.val) (a b : ℕ) (inb : ∀ d, ![b, 0] d + ![128, 128] d ≤ ![7168, 128] d)
    (v : Vec Ideal S128x128 .f32)
    (hv : v = View.readAt (Elt Ideal) M.view (Rect.unit (s := S7168x128) ![b, 0] ![128, 128] inb).toLoadRect (h.unread x)) :
    AtT (fun _ k => g k) a b v := fun l i =>
  load32 (f := fun k _ => g k) M h x hx b 0 inb v hv l i

/-- The scale of block `j` of token `i`. -/
def sclN (X : ℕ → ℕ → EReal) (i j : ℕ) : EReal := scale (amaxN X i (j * 128))

/-- The scales of a block, as a piece of the array of scales. -/
theorem sB_at' {X : ℕ → ℕ → EReal} {a b j : ℕ} (hb : b = j * 128) {x : FVec Ideal S128x128 .f32} (h : AtT X a b x) :
    At (fun j i => sclN X i j) j a (sB x) := fun u i => by
  subst hb
  rw [sB_at h u i, Subsingleton.elim u 0]
  rfl

/-- A load of a block that the stores before it cover, all of one array. -/
theorem readCov_at {p q m n : ℕ} {e : EltTy} {f : ℕ → ℕ → Elt Ideal e} (v : View sig .tc .vmem ⟨2, ![m, n]⟩ e)
    (L : List (View.Piece (Elt Ideal) ⟨2, ![m, n]⟩ e))
    (hL : View.PiecesOf (fun z : Shape.Idx ⟨2, ![m, n]⟩ => f (z 0).val (z 1).val) L) (hc : ∀ y, ∃ pc ∈ L, y ∈ pc.1.set)
    (a b : ℕ) (inb : ∀ d, ![a, b] d + ![p, q] d ≤ ![m, n] d) (u : Vec Ideal ⟨2, ![p, q]⟩ e)
    (hu : u = v.readCov L (Rect.unit (s := ⟨2, ![m, n]⟩) ![a, b] ![p, q] inb).toLoadRect) (i : Fin p) (l : Fin q) :
    u (ix2 i l) = f (a + i.val) (b + l.val) := by
  rw [hu, View.readCov_eq_canon']
  refine (View.canon_apply_of_pieces (fun z : Shape.Idx ⟨2, ![m, n]⟩ => f (z 0).val (z 1).val) _ hL.mem _ (hc _)).trans ?_
  show f (a + 1 * i.val) (b + 1 * l.val) = _
  rw [Nat.one_mul, Nat.one_mul]

/-- The scales of one half of the tokens, transposed back. -/
theorem sT_at {f : ℕ → ℕ → EReal} {a : ℕ} {v : FVec Ideal S56x128 .f32} (h : At f 0 a v) :
    At (fun i k => f k i) a 0 (transpose S128x56 [1, 0] v transposes_S56x128_p1_0_S128x56) := fun i k => by
  have e : (transpose S128x56 [1, 0] v transposes_S56x128_p1_0_S128x56) (ix2 i k) = v (ix2 k i) := by pointwise []
  rw [e, h k i]

/-- The projection of token `i` by weight row `o`. -/
def pN (W D : ℕ → ℕ → EReal) (o i : ℕ) : EReal := ∑ k : Fin 7168, W o k.val * D i k.val

/-- The partial projection after all 28 chunks is the whole projection. -/
theorem accY_all {W D : ℕ → ℕ → EReal} {y : FVec Ideal S576x256 .f32} (h : AccY W D 28 y) : At (pN W D) 0 0 y :=
  fun o i => by
    rw [h o i, accY_total fun k => W o.val k * D i.val k, Nat.zero_add, Nat.zero_add]
    rfl

/-- The normalised latent of token `i`. -/
def latN (P : ℕ → ℕ → EReal) (g : ℕ → EReal) (i o : ℕ) : EReal :=
  P o i * Ideal.rsqrt ((∑ p : Fin 512, P p.val i * P p.val i) * ((1 / 512 : ℝ) : EReal) + eps) * g o

/-- The last part of the projection, for the first half of the tokens. -/
theorem pay2026_at {P : ℕ → ℕ → EReal} {y : FVec Ideal S576x256 .f32} (h : At P 0 0 y) :
    At (fun i o => P (512 + o) i) 0 0 (k0_pay2026 (F := Ideal) y) := fun i o => by
  have e : k0_pay2026 (F := Ideal) y (ix2 i o) = y (ix2 ⟨512 + o.val, by omega⟩ ⟨i.val, by omega⟩) := by
    pointwise [k0_pay2026]
  rw [e, h]
  simp only [Nat.zero_add]

/-- The last part of the projection, for the second half of the tokens. -/
theorem pay2_at {P : ℕ → ℕ → EReal} {y : FVec Ideal S576x256 .f32} (h : At P 0 0 y) :
    At (fun i o => P (512 + o) i) 128 0 (k0_pay2 (F := Ideal) y) := fun i o => by
  have e : k0_pay2 (F := Ideal) y (ix2 i o) = y (ix2 ⟨512 + o.val, by omega⟩ ⟨128 + i.val, by omega⟩) := by
    pointwise [k0_pay2]
  rw [e, h]
  simp only [Nat.zero_add]

/-- The normalised latent, for the first half of the tokens. -/
theorem pay2025_at {P : ℕ → ℕ → EReal} {g : ℕ → EReal} {y : FVec Ideal S576x256 .f32} {w : Vec Ideal S512x128 .f32}
    (h : At P 0 0 y) (hw : At (fun o _ => g o) 0 0 w) : At (latN P g) 0 0 (k0_pay2025 (F := Ideal) y w) := fun i o => by
  have hy : ∀ p : Fin 512, y (ix2 ⟨p.val, by omega⟩ ⟨i.val, by omega⟩) = P p.val i.val := fun p => by
    rw [h]; simp only [Nat.zero_add]
  pointwise [k0_pay2025]
  rw [ofBits_512th, hw o i]
  simp only [hy, Nat.zero_add]
  rfl

/-- The normalised latent, for the second half of the tokens. -/
theorem pay1_at {P : ℕ → ℕ → EReal} {g : ℕ → EReal} {y : FVec Ideal S576x256 .f32} {w : Vec Ideal S512x128 .f32}
    (h : At P 0 0 y) (hw : At (fun o _ => g o) 0 0 w) :
    At (latN P g) 128 0 (k0_pay1 (F := Ideal) (k0_pay2028 y) (k0_pay2029 y) w) := fun i o => by
  have hy : ∀ p : Fin 512, y (ix2 ⟨p.val, by omega⟩ ⟨128 + i.val, by omega⟩) = P p.val (128 + i.val) := fun p => by
    rw [h]; simp only [Nat.zero_add]
  pointwise [k0_pay1, k0_pay2028, k0_pay2029]
  rw [ofBits_512th, hw o i]
  simp only [hy, Nat.zero_add]
  rfl

end Cert.KernelIdeal.Steps

end
-- ==== Proof.Prep.lean ====
module

public import proofs.«01_k».proof.Proof.Rows

@[expose] public section

set_option maxRecDepth 16384

/-! # What the kernel's first grid point prepares

The first grid point spreads the weights of the two normalisations over lanes, and multiplies the weight matrix by its
block scales.  Each theorem says what one block of these is. -/

noncomputable section

namespace Cert.KernelIdeal.Steps

open Idealize.ShloMosaic Idealize.ShloMosaic.Pointwise Cert.Down
open Cert.KernelIdeal Cert.KernelIdeal.Gen

/-- A whole array of 32-bit floats as a function of two natural numbers. -/
def in32 {m n : ℕ} (x : Vec Ideal ⟨2, ![m, n]⟩ .f32) : ℕ → ℕ → EReal := nat2 fun i k => x (ix2 i k)

/-- Inside the extents, the function is the array. -/
theorem in32_val {m n : ℕ} (x : Vec Ideal ⟨2, ![m, n]⟩ .f32) (i : Fin m) (k : Fin n) :
    x (ix2 i k) = in32 x i.val k.val := (nat2_val (fun i k => x (ix2 i k)) i k).symm

/-- A whole array of 8-bit floats as a function of two natural numbers. -/
def in8 {m n : ℕ} (x : Vec Ideal ⟨2, ![m, n]⟩ .fp8e4m3) : ℕ → ℕ → EReal := nat2 fun i k => x (ix2 i k)

/-- Inside the extents, the function is the array. -/
theorem in8_val {m n : ℕ} (x : Vec Ideal ⟨2, ![m, n]⟩ .fp8e4m3) (i : Fin m) (k : Fin n) :
    x (ix2 i k) = in8 x i.val k.val := (nat2_val (fun i k => x (ix2 i k)) i k).symm

/-- The weights of a normalisation, given in rows of 128. -/
def gN {m : ℕ} (x : Vec Ideal ⟨2, ![m, 128]⟩ .f32) (k : ℕ) : EReal := in32 x (k / 128) (k % 128)

/-- The weight matrix times its block scales. -/
def wN (x3 : Vec Ideal S576x7168 .fp8e4m3) (x4 : Vec Ideal S5x56 .f32) (o k : ℕ) : EReal :=
  in8 x3 o k * in32 x4 (o / 128) (k / 128)

/-- A load of a block of a whole array of 8-bit floats. -/
theorem load8 {m n p q : ℕ} (M : Memref sig .tc .vmem ⟨2, ![m, n]⟩ .fp8e4m3) (h : M.IsWhole)
    (x : Vec Ideal ⟨2, ![m, n]⟩ .fp8e4m3) (a b : ℕ) (inb : ∀ d, ![a, b] d + ![p, q] d ≤ ![m, n] d)
    (v : Vec Ideal ⟨2, ![p, q]⟩ .fp8e4m3)
    (hv : v = View.readAt (Elt Ideal) M.view (Rect.unit ![a, b] ![p, q] inb).toLoadRect (h.unread x)) :
    At (in8 x) a b v := fun i l => by
  exact (load_apply M h x a b inb v hv i l).trans (in8_val x _ _)

/-- A load of one block scale. -/
theorem loadScale (M : Memref sig .tc .smem S5x56 .f32) (h : M.IsWhole) (x : Vec Ideal S5x56 .f32) (a b : ℕ)
    (inb : ∀ d, ![a, b] d + ![1, 1] d ≤ ![5, 56] d) (y : S1x1.Idx) (s : EReal)
    (hs : s = View.readAt (Elt Ideal) M.view (Rect.unit (s := S5x56) ![a, b] ![1, 1] inb).toLoadRect (h.unread x) y) :
    s = in32 x a b := by
  have e : y = ix2 0 0 := by
    funext d
    match d with
    | ⟨0, _⟩ => exact Fin.ext (Nat.lt_one_iff.mp (y 0).isLt)
    | ⟨1, _⟩ => exact Fin.ext (Nat.lt_one_iff.mp (y 1).isLt)
  rw [hs, e]
  exact (load_apply M h x a b inb _ rfl 0 0).trans (in32_val x _ _)

/-- A block of the weight matrix times its scale. -/
theorem w128_at {f g : ℕ → ℕ → EReal} {a b : ℕ} (ha : a % 128 = 0) (hb : b % 128 = 0) {u : Vec Ideal S128x128 .fp8e4m3}
    {s : Elt Ideal .f32} (hu : At f a b u) (hs : s = g (a / 128) (b / 128)) :
    At (fun o k => f o k * g (o / 128) (k / 128)) a b
      (shapeCast S128x128 (mulf (extf .bf16 u bitsLt_fp8e4m3_bf16)
        (truncf .bf16 (broadcast S128x128 s : FVec Ideal S128x128 .f32) bitsLt_bf16_f32) : FVec Ideal S128x128 .bf16)
        shapeCasts_S128x128_S128x128 : FVec Ideal S128x128 .bf16) := fun l i => by
  have e : (shapeCast S128x128 (mulf (extf .bf16 u bitsLt_fp8e4m3_bf16)
        (truncf .bf16 (broadcast S128x128 s : FVec Ideal S128x128 .f32) bitsLt_bf16_f32) : FVec Ideal S128x128 .bf16)
        shapeCasts_S128x128_S128x128 : FVec Ideal S128x128 .bf16) (ix2 l i) = u (ix2 l i) * s := by pointwise []
  have e1 : (a + l.val) / 128 = a / 128 := by omega
  have e2 : (b + i.val) / 128 = b / 128 := by omega
  rw [e, hu l i, hs]
  simp only [e1, e2]

/-- A block of the last 64 rows of the weight matrix times its scale. -/
theorem w64_at {f g : ℕ → ℕ → EReal} {a b : ℕ} (ha : a % 128 = 0) (hb : b % 128 = 0) {u : Vec Ideal S64x128 .fp8e4m3}
    {s : Elt Ideal .f32} (hu : At f a b u) (hs : s = g (a / 128) (b / 128)) :
    At (fun o k => f o k * g (o / 128) (k / 128)) a b
      (shapeCast S64x128 (mulf (extf .bf16 u bitsLt_fp8e4m3_bf16)
        (truncf .bf16 (broadcast S64x128 s : FVec Ideal S64x128 .f32) bitsLt_bf16_f32) : FVec Ideal S64x128 .bf16)
        shapeCasts_S64x128_S64x128 : FVec Ideal S64x128 .bf16) := fun l i => by
  have e : (shapeCast S64x128 (mulf (extf .bf16 u bitsLt_fp8e4m3_bf16)
        (truncf .bf16 (broadcast S64x128 s : FVec Ideal S64x128 .f32) bitsLt_bf16_f32) : FVec Ideal S64x128 .bf16)
        shapeCasts_S64x128_S64x128 : FVec Ideal S64x128 .bf16) (ix2 l i) = u (ix2 l i) * s := by pointwise []
  have e1 : (a + l.val) / 128 = a / 128 := by omega
  have e2 : (b + i.val) / 128 = b / 128 := by omega
  rw [e, hu l i, hs]
  simp only [e1, e2]

/-- A row of weights, spread over lanes. -/
theorem spread_at {n : ℕ} {f : ℕ → ℕ → EReal} {j a : ℕ} (ha : a = j * 128) {v : Vec Ideal ⟨2, ![128, n]⟩ .f32}
    (hv : At (fun l j => f j l) 0 0 v) (hs : Shape.Slices ⟨2, ![128, n]⟩ ![0, j] S128x1) :
    At (fun k _ => f (k / 128) (k % 128)) a 0
      (shapeCast S128x128 (broadcastTo S128x128 (shapeCast S128x1 (extractStridedSlice S128x1 ![0, j] v hs)
        shapeCasts_S128x1_S128x1) broadcasts_S128x1_S128x128 : Vec Ideal S128x128 .f32)
        shapeCasts_S128x128_S128x128 : Vec Ideal S128x128 .f32) := fun l i => by
  have hj : j < n := by have := hs.2 1; simp [S128x1] at this; omega
  have e1 : ∀ w : Vec Ideal S128x1 .f32, (shapeCast S128x128 (broadcastTo S128x128 (shapeCast S128x1 w
        shapeCasts_S128x1_S128x1) broadcasts_S128x1_S128x128 : Vec Ideal S128x128 .f32)
        shapeCasts_S128x128_S128x128 : Vec Ideal S128x128 .f32) (ix2 l i) = w (ix2 l 0) := by
    intro w
    pointwise []
  have e2 : extractStridedSlice S128x1 ![0, j] v hs (ix2 l 0) = v (ix2 l ⟨j, hj⟩) :=
    Idealize.ShloMosaic.extractStridedSlice_apply _ _ _ _ _ fun d => by
      match d with
      | ⟨0, _⟩ => exact (Nat.zero_add _).symm
      | ⟨1, _⟩ => rfl
  have e3 : (a + l.val) / 128 = j := by omega
  have e4 : (a + l.val) % 128 = l.val := by omega
  rw [e1, e2, hv l ⟨j, hj⟩]
  simp only [e3, e4, Nat.zero_add]

/-- The weights of the first normalisation, transposed. -/
theorem t56_at {f : ℕ → ℕ → EReal} {u : Vec Ideal S56x128 .f32} (h : At f 0 0 u) :
    At (fun l j => f j l) 0 0 (transpose S128x56 [1, 0] (shapeCast S56x128 u shapeCasts_S56x128_S56x128 : Vec Ideal S56x128 .f32)
      transposes_S56x128_p1_0_S128x56) := fun l i => by
  have e : (transpose S128x56 [1, 0] (shapeCast S56x128 u shapeCasts_S56x128_S56x128 : Vec Ideal S56x128 .f32)
      transposes_S56x128_p1_0_S128x56) (ix2 l i) = u (ix2 i l) := by pointwise []
  rw [e, h i l]

/-- The weights of the second normalisation, transposed. -/
theorem t4_at {f : ℕ → ℕ → EReal} {u : Vec Ideal S4x128 .f32} (h : At f 0 0 u) :
    At (fun l j => f j l) 0 0 (transpose S128x4 [1, 0] (shapeCast S4x128 u shapeCasts_S4x128_S4x128 : Vec Ideal S4x128 .f32)
      transposes_S4x128_p1_0_S128x4) := fun l i => by
  have e : (transpose S128x4 [1, 0] (shapeCast S4x128 u shapeCasts_S4x128_S4x128 : Vec Ideal S4x128 .f32)
      transposes_S4x128_p1_0_S128x4) (ix2 l i) = u (ix2 i l) := by pointwise []
  rw [e, h i l]

end Cert.KernelIdeal.Steps

end
-- ==== Proof.CaseA.lean ====
module

public import proofs.«01_k».proof.Proof.Prep
public import proofs.«01_k».proof.Proof.Gen.KernelIdeal.Frame

@[expose] public section

set_option maxRecDepth 200000

noncomputable section

namespace Cert.KernelIdeal.CaseA

open Idealize.ShloMosaic Idealize.ShloMosaic.Pointwise Cert.Down
open Cert.KernelIdeal Cert.KernelIdeal.Gen Cert.KernelIdeal.Steps

variable {c : Dev nD} {i : grid0.Coords} {arg1 : Memref sig .tc .vmem S256x7168 .bf16} {harg1 : arg1.IsWhole} {arg2 : Memref sig .tc .vmem S256x7168 .bf16} {harg2 : arg2.IsWhole} {arg3 : Memref sig .tc .vmem S56x128 .f32} {harg3 : arg3.IsWhole} {arg4 : Memref sig .tc .vmem S576x7168 .fp8e4m3} {harg4 : arg4.IsWhole} {arg5 : Memref sig .tc .smem S5x56 .f32} {harg5 : arg5.IsWhole} {arg6 : Memref sig .tc .vmem S4x128 .f32} {harg6 : arg6.IsWhole} {arg7 : Memref sig .tc .vmem S256x512 .bf16} {harg7 : arg7.IsWhole} {arg8 : Memref sig .tc .vmem S256x64 .bf16} {harg8 : arg8.IsWhole} {arg9 : Memref sig .tc .vmem S256x7168 .bf16} {harg9 : arg9.IsWhole} {arg10 : Memref sig .tc .vmem S256x7168 .fp8e4m3} {harg10 : arg10.IsWhole} {arg11 : Memref sig .tc .vmem S256x56 .f32} {harg11 : arg11.IsWhole} {arg12 : Memref sig .tc .vmem S7168x256 .bf16} {harg12 : arg12.IsWhole} {arg13 : Memref sig .tc .vmem S576x7168 .bf16} {harg13 : arg13.IsWhole} {arg14 : Memref sig .tc .vmem S7168x128 .f32} {harg14 : arg14.IsWhole} {arg15 : Memref sig .tc .vmem S512x128 .f32} {harg15 : arg15.IsWhole} {arg16 : Memref sig .tc .vmem S56x256 .f32} {harg16 : arg16.IsWhole} {hc0 : cond0_0 i}
  {x0 : Vec Ideal S256x7168 .bf16} {x1 : Vec Ideal S256x7168 .bf16} {x2 : Vec Ideal S56x128 .f32} {x3 : Vec Ideal S576x7168 .fp8e4m3} {x4 : Vec Ideal S5x56 .f32} {x5 : Vec Ideal S4x128 .f32}

set_option maxHeartbeats 4000000 in
/-- The weight matrix times its scales, as kept in scratch. -/
theorem hs1 : View.PiecesOf (Val := Elt Ideal) (fun z : S576x7168.Idx => wN x3 x4 (z 0).val (z 1).val)
    (kernelRun0_A.sl.HS1_280 c arg4 harg4 arg5 harg5 x3 x4) := by
  dsimp only [kernelRun0_A.sl.HS1_280]
  repeat' (first | exact trivial | refine ⟨piece_at (f := wN x3 x4) (w64_at (by decide) (by decide) (load8 arg4 harg4 x3 _ _ _ _ rfl)
        (loadScale arg5 harg5 x4 _ _ _ _ _ rfl)) (by decide), ?_⟩ | refine ⟨piece_at (f := wN x3 x4) (w128_at (by decide) (by decide) (load8 arg4 harg4 x3 _ _ _ _ rfl)
        (loadScale arg5 harg5 x4 _ _ _ _ _ rfl)) (by decide), ?_⟩)

set_option maxHeartbeats 4000000 in
/-- The weights of the first normalisation spread over lanes, as kept in scratch. -/
theorem hs2 : View.PiecesOf (Val := Elt Ideal) (fun z : S7168x128.Idx => gN x2 (z 0).val)
    (kernelRun0_A.sl.HS2_56 c arg3 harg3 x2) := by
  dsimp only [kernelRun0_A.sl.HS2_56]
  repeat' (first | exact trivial | refine ⟨piece_at (f := fun k _ => gN x2 k) (spread_at (by decide)
    (t56_at (load32 arg3 harg3 x2 (in32_val x2) _ _ _ _ rfl)) (by decide)) (by decide), ?_⟩)

/-- The weights of the second normalisation spread over lanes, as kept in scratch. -/
theorem hs3 : View.PiecesOf (Val := Elt Ideal) (fun z : S512x128.Idx => gN x5 (z 0).val)
    (kernelRun0_A.sl.HS3_4 c arg6 harg6 x5) := by
  dsimp only [kernelRun0_A.sl.HS3_4]
  repeat' (first | exact trivial | refine ⟨piece_at (f := fun k _ => gN x5 k) (spread_at (by decide)
    (t4_at (load32 arg6 harg6 x5 (in32_val x5) _ _ _ _ rfl)) (by decide)) (by decide), ?_⟩)

/-- A block of the weight matrix read back from scratch. -/
theorem loadW (v : View sig .tc .vmem S576x7168 .bf16) (b : ℕ) (inb : ∀ d, ![0, b] d + ![576, 256] d ≤ ![576, 7168] d)
    (u : Vec Ideal S576x256 .bf16)
    (hu : u = v.readCov (kernelRun0_A.sl.HS1_280 c arg4 harg4 arg5 harg5 x3 x4)
      (Rect.unit (s := S576x7168) ![0, b] ![576, 256] inb).toLoadRect) : At (wN x3 x4) 0 b u := fun i l =>
  readCov_at (f := wN x3 x4) v _ hs1 (View.cover_of_tiledBy _ ![64, 128] (by sl_kernel_rfl)) 0 b inb u hu i l

/-- A block of the spread weights of the first normalisation read back from scratch. -/
theorem loadP (v : View sig .tc .vmem S7168x128 .f32) (b : ℕ) (inb : ∀ d, ![b, 0] d + ![128, 128] d ≤ ![7168, 128] d)
    (u : Vec Ideal S128x128 .f32)
    (hu : u = v.readCov (kernelRun0_A.sl.HS2_56 c arg3 harg3 x2)
      (Rect.unit (s := S7168x128) ![b, 0] ![128, 128] inb).toLoadRect) : At (fun k _ => gN x2 k) b 0 u := fun i l =>
  readCov_at (f := fun k _ => gN x2 k) v _ hs2 (View.cover_of_tiledL _ S128x128.size (by sl_kernel_rfl)) b 0 inb u hu i l

/-- The spread weights of the second normalisation read back from scratch. -/
theorem loadT (v : View sig .tc .vmem S512x128 .f32) (inb : ∀ d, ![0, 0] d + ![512, 128] d ≤ ![512, 128] d)
    (u : Vec Ideal S512x128 .f32)
    (hu : u = v.readCov (kernelRun0_A.sl.HS3_4 c arg6 harg6 x5)
      (Rect.unit (s := S512x128) ![0, 0] ![512, 128] inb).toLoadRect) : At (fun k _ => gN x5 k) 0 0 u := fun i l =>
  readCov_at (f := fun k _ => gN x5 k) v _ hs3 (View.cover_of_tiledL _ S128x128.size (by sl_kernel_rfl)) 0 0 inb u hu i l

/-- The first result of the sum is the sum, block by block. -/
theorem out8 : View.PiecesOf (Val := Elt Ideal) (fun z : S256x7168.Idx => hN x0 x1 (z 0).val (z 1).val)
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5).2.2.1 := by
  dsimp only [kernelRun0_A]
  repeat' (first | exact trivial | refine ⟨piece_at (f := hN x0 x1)
    (hB_at (load16 arg1 harg1 x0 (inN_val x0) _ _ _ _ rfl) (load16 arg2 harg2 x1 (inN_val x1) _ _ _ _ rfl)) (by decide), ?_⟩)

/-- The transposed sum, as kept in scratch. -/
theorem hs0 : View.PiecesOf (Val := Elt Ideal) (fun z : S7168x256.Idx => hN x0 x1 (z 1).val (z 0).val)
    (kernelRun0_A.sl.HS0_112 c arg1 harg1 arg2 harg2 x0 x1) := by
  dsimp only [kernelRun0_A.sl.HS0_112]
  repeat' (first | exact trivial | refine ⟨piece_at (f := fun k i => hN x0 x1 i k)
    (at_cast (hT_at' (load16 arg1 harg1 x0 (inN_val x0) _ _ _ _ rfl) (load16 arg2 harg2 x1 (inN_val x1) _ _ _ _ rfl)))
    (by decide), ?_⟩)

/-- A block read back from that scratch. -/
theorem loadH (v : View sig .tc .vmem S7168x256 .bf16) (a b : ℕ) (inb : ∀ d, ![b, a] d + ![128, 128] d ≤ ![7168, 256] d)
    (u : Vec Ideal S128x128 .bf16)
    (hu : u = v.readCov (kernelRun0_A.sl.HS0_112 c arg1 harg1 arg2 harg2 x0 x1)
      (Rect.unit (s := S7168x256) ![b, a] ![128, 128] inb).toLoadRect) : AtT (hN x0 x1) a b u := fun l i =>
  readCov_at (f := fun k i => hN x0 x1 i k) v _ hs0 (View.cover_of_tiledL _ S128x128.size (by sl_kernel_rfl)) b a inb u hu l i

/-- The reciprocal roots, for the first half of the tokens. -/
theorem r0 : RowAt (rinvN (hN x0 x1)) 0 (kernelRun0_A.sl.r_288 c arg1 harg1 arg2 harg2 x0 x1) := by
  refine rB_at ?_
  repeat'
    refine acc_step ?_ rfl
      (hT_at (load16 arg1 harg1 x0 (inN_val x0) _ _ _ _ rfl) (load16 arg2 harg2 x1 (inN_val x1) _ _ _ _ rfl))
  exact acc_one (hT_at (load16 arg1 harg1 x0 (inN_val x0) _ _ _ _ rfl) (load16 arg2 harg2 x1 (inN_val x1) _ _ _ _ rfl))

/-- The reciprocal roots, for the second half of the tokens. -/
theorem r1 : RowAt (rinvN (hN x0 x1)) 128 (kernelRun0_A.sl.r_289 c arg1 harg1 arg2 harg2 x0 x1) := by
  refine rB_at ?_
  repeat'
    refine acc_step ?_ rfl
      (hT_at (load16 arg1 harg1 x0 (inN_val x0) _ _ _ _ rfl) (load16 arg2 harg2 x1 (inN_val x1) _ _ _ _ rfl))
  exact acc_one (hT_at (load16 arg1 harg1 x0 (inN_val x0) _ _ _ _ rfl) (load16 arg2 harg2 x1 (inN_val x1) _ _ _ _ rfl))

set_option maxHeartbeats 4000000 in
/-- The codes, block by block. -/
theorem out9 :
    View.PiecesOf (Val := Elt Ideal) (fun z : S256x7168.Idx => codeN (xN x0 x1 (gN x2)) (z 0).val (z 1).val)
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5).2.2.2.1 := by
  dsimp only [kernelRun0_A]
  repeat' (first | exact trivial | refine ⟨piece_at (f := codeN (xN x0 x1 (gN x2))) (qB_at (by decide)
    (xnB_at (loadH arg12.view _ _ _ _ rfl) (by first | exact r0 | exact r1) (loadP arg14.view _ _ _ rfl)))
    (by decide), ?_⟩)

set_option maxHeartbeats 4000000 in
/-- The scales, as kept in scratch. -/
theorem hs4 :
    View.PiecesOf (Val := Elt Ideal) (fun z : S56x256.Idx => sclN (xN x0 x1 (gN x2)) (z 1).val (z 0).val)
    (kernelRun0_A.sl.HS4_112 c arg1 harg1 arg2 harg2 arg3 harg3 arg12 arg14 x0 x1 x2) := by
  dsimp only [kernelRun0_A.sl.HS4_112]
  repeat' (first | exact trivial | refine ⟨piece_at (f := fun j i => sclN (xN x0 x1 (gN x2)) i j) (sB_at' (by decide)
    (xnB_at (loadH arg12.view _ _ _ _ rfl) (by first | exact r0 | exact r1) (loadP arg14.view _ _ _ rfl)))
    (by decide), ?_⟩)

/-- The scales of one half of the tokens, read back from that scratch. -/
theorem loadS (v : View sig .tc .vmem S56x256 .f32) (a : ℕ)
    (inb : ∀ d, ![0, a] d + ![56, 128] d ≤ ![56, 256] d) (u : Vec Ideal S56x128 .f32)
    (hu : u = v.readCov (kernelRun0_A.sl.HS4_112 c arg1 harg1 arg2 harg2 arg3 harg3 arg12 arg14 x0 x1 x2)
      (Rect.unit (s := S56x256) ![0, a] ![56, 128] inb).toLoadRect) :
    At (fun j i => sclN (xN x0 x1 (gN x2)) i j) 0 a u := fun j i =>
  readCov_at (f := fun j i => sclN (xN x0 x1 (gN x2)) i j) v _ hs4
    (View.cover_of_tiledL _ S1x128.size (by sl_kernel_rfl)) 0 a inb u hu j i

/-- The scales. -/
theorem out10 :
    View.PiecesOf (Val := Elt Ideal) (fun z : S256x56.Idx => sclN (xN x0 x1 (gN x2)) (z 0).val (z 1).val)
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5).2.2.2.2.1 := by
  dsimp only [kernelRun0_A]
  exact ⟨piece_at (f := fun i j => sclN (xN x0 x1 (gN x2)) i j) (a := 128) (m := 256) (n := 56)
      (sT_at (loadS arg16.view _ _ _ rfl)) (by decide),
    piece_at (f := fun i j => sclN (xN x0 x1 (gN x2)) i j) (a := 0) (m := 256) (n := 56)
      (sT_at (loadS arg16.view _ _ _ rfl)) (by decide), trivial⟩

set_option maxHeartbeats 4000000 in
/-- The projection. -/
theorem y28 :
    AccY (wN x3 x4) (deqN (xN x0 x1 (gN x2))) 28
      (kernelRun0_A.sl.r_336 c arg1 harg1 arg2 harg2 arg3 harg3 arg4 harg4 arg5 harg5 arg12 arg13 arg14 x0 x1 x2 x3 x4) := by
  repeat'
    refine accY_step ?_ (by decide) (by decide) (loadW arg13.view _ _ _ rfl)
      (xnB_at (loadH arg12.view _ _ _ _ rfl) r0 (loadP arg14.view _ _ _ rfl))
      (xnB_at (loadH arg12.view _ _ _ _ rfl) r0 (loadP arg14.view _ _ _ rfl))
      (xnB_at (loadH arg12.view _ _ _ _ rfl) r1 (loadP arg14.view _ _ _ rfl))
      (xnB_at (loadH arg12.view _ _ _ _ rfl) r1 (loadP arg14.view _ _ _ rfl))
  exact accY_one (loadW arg13.view _ _ _ rfl)
    (xnB_at (loadH arg12.view _ _ _ _ rfl) r0 (loadP arg14.view _ _ _ rfl))
    (xnB_at (loadH arg12.view _ _ _ _ rfl) r0 (loadP arg14.view _ _ _ rfl))
    (xnB_at (loadH arg12.view _ _ _ _ rfl) r1 (loadP arg14.view _ _ _ rfl))
    (xnB_at (loadH arg12.view _ _ _ _ rfl) r1 (loadP arg14.view _ _ _ rfl))

/-- The last part of the projection. -/
theorem out7 :
    View.PiecesOf (Val := Elt Ideal) (fun z : S256x64.Idx => pN (wN x3 x4) (deqN (xN x0 x1 (gN x2))) (512 + (z 1).val) (z 0).val)
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5).2.1 := by
  dsimp only [kernelRun0_A]
  exact ⟨piece_at (f := fun i o => pN (wN x3 x4) (deqN (xN x0 x1 (gN x2))) (512 + o) i) (pay2_at (accY_all y28)) (by decide),
    piece_at (f := fun i o => pN (wN x3 x4) (deqN (xN x0 x1 (gN x2))) (512 + o) i) (pay2026_at (accY_all y28)) (by decide), trivial⟩

/-- The normalised latent. -/
theorem out6 :
    View.PiecesOf (Val := Elt Ideal) (fun z : S256x512.Idx => latN (pN (wN x3 x4) (deqN (xN x0 x1 (gN x2)))) (gN x5) (z 0).val (z 1).val)
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5).1 := by
  dsimp only [kernelRun0_A]
  exact ⟨piece_at (f := latN (pN (wN x3 x4) (deqN (xN x0 x1 (gN x2)))) (gN x5))
      (pay1_at (accY_all y28) (loadT arg15.view _ _ rfl)) (by decide),
    piece_at (f := latN (pN (wN x3 x4) (deqN (xN x0 x1 (gN x2)))) (gN x5))
      (pay2025_at (accY_all y28) (loadT arg15.view _ _ rfl)) (by decide), trivial⟩

end Cert.KernelIdeal.CaseA

end
-- ==== Proof.CaseB.lean ====
module

public import proofs.«01_k».proof.Proof.Rows
public import proofs.«01_k».proof.Proof.Gen.KernelIdeal.Frame

@[expose] public section

set_option maxRecDepth 200000

noncomputable section

namespace Cert.KernelIdeal.CaseB

open Idealize.ShloMosaic Idealize.ShloMosaic.Pointwise Cert.Down
open Cert.KernelIdeal Cert.KernelIdeal.Gen Cert.KernelIdeal.Steps

variable {c : Dev nD} {i : grid0.Coords} {arg1 : Memref sig .tc .vmem S256x7168 .bf16} {harg1 : arg1.IsWhole} {arg2 : Memref sig .tc .vmem S256x7168 .bf16} {harg2 : arg2.IsWhole} {arg3 : Memref sig .tc .vmem S56x128 .f32} {harg3 : arg3.IsWhole} {arg4 : Memref sig .tc .vmem S576x7168 .fp8e4m3} {harg4 : arg4.IsWhole} {arg5 : Memref sig .tc .smem S5x56 .f32} {harg5 : arg5.IsWhole} {arg6 : Memref sig .tc .vmem S4x128 .f32} {harg6 : arg6.IsWhole} {arg7 : Memref sig .tc .vmem S256x512 .bf16} {harg7 : arg7.IsWhole} {arg8 : Memref sig .tc .vmem S256x64 .bf16} {harg8 : arg8.IsWhole} {arg9 : Memref sig .tc .vmem S256x7168 .bf16} {harg9 : arg9.IsWhole} {arg10 : Memref sig .tc .vmem S256x7168 .fp8e4m3} {harg10 : arg10.IsWhole} {arg11 : Memref sig .tc .vmem S256x56 .f32} {harg11 : arg11.IsWhole} {arg12 : Memref sig .tc .vmem S7168x256 .bf16} {harg12 : arg12.IsWhole} {arg13 : Memref sig .tc .vmem S576x7168 .bf16} {harg13 : arg13.IsWhole} {arg14 : Memref sig .tc .vmem S7168x128 .f32} {harg14 : arg14.IsWhole} {arg15 : Memref sig .tc .vmem S512x128 .f32} {harg15 : arg15.IsWhole} {arg16 : Memref sig .tc .vmem S56x256 .f32} {harg16 : arg16.IsWhole} {hc0 : ¬cond0_0 i}
  {x0 : Vec Ideal S256x7168 .bf16} {x1 : Vec Ideal S256x7168 .bf16} {x2 : Vec Ideal S56x128 .f32} {x3 : Vec Ideal S576x7168 .fp8e4m3} {x4 : Vec Ideal S5x56 .f32} {x5 : Vec Ideal S4x128 .f32}
  {xs1 : Vec Ideal S576x7168 .bf16} {xs2 : Vec Ideal S7168x128 .f32} {xs3 : Vec Ideal S512x128 .f32}
  {g gt : ℕ → EReal} {W : ℕ → ℕ → EReal}

/-- The first result of the sum is the sum, block by block. -/
theorem out8 : View.PiecesOf (Val := Elt Ideal) (fun z : S256x7168.Idx => hN x0 x1 (z 0).val (z 1).val)
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3).2.2.1 := by
  dsimp only [kernelRun0_B]
  repeat' (first | exact trivial | refine ⟨piece_at (f := hN x0 x1)
    (hB_at (load16 arg1 harg1 x0 (inN_val x0) _ _ _ _ rfl) (load16 arg2 harg2 x1 (inN_val x1) _ _ _ _ rfl)) (by decide), ?_⟩)

/-- The transposed sum, as kept in scratch. -/
theorem hs0 : View.PiecesOf (Val := Elt Ideal) (fun z : S7168x256.Idx => hN x0 x1 (z 1).val (z 0).val)
    (kernelRun0_B.sl.HS0_112 c arg1 harg1 arg2 harg2 x0 x1) := by
  dsimp only [kernelRun0_B.sl.HS0_112]
  repeat' (first | exact trivial | refine ⟨piece_at (f := fun k i => hN x0 x1 i k)
    (at_cast (hT_at' (load16 arg1 harg1 x0 (inN_val x0) _ _ _ _ rfl) (load16 arg2 harg2 x1 (inN_val x1) _ _ _ _ rfl)))
    (by decide), ?_⟩)

/-- A block read back from that scratch. -/
theorem loadH (v : View sig .tc .vmem S7168x256 .bf16) (a b : ℕ) (inb : ∀ d, ![b, a] d + ![128, 128] d ≤ ![7168, 256] d)
    (u : Vec Ideal S128x128 .bf16)
    (hu : u = v.readCov (kernelRun0_B.sl.HS0_112 c arg1 harg1 arg2 harg2 x0 x1)
      (Rect.unit (s := S7168x256) ![b, a] ![128, 128] inb).toLoadRect) : AtT (hN x0 x1) a b u := fun l i =>
  readCov_at (f := fun k i => hN x0 x1 i k) v _ hs0 (View.cover_of_tiledL _ S128x128.size (by sl_kernel_rfl)) b a inb u hu l i

/-- The reciprocal roots, for the first half of the tokens. -/
theorem r0 : RowAt (rinvN (hN x0 x1)) 0 (kernelRun0_B.sl.r_8 c arg1 harg1 arg2 harg2 x0 x1) := by
  refine rB_at ?_
  repeat'
    refine acc_step ?_ rfl
      (hT_at (load16 arg1 harg1 x0 (inN_val x0) _ _ _ _ rfl) (load16 arg2 harg2 x1 (inN_val x1) _ _ _ _ rfl))
  exact acc_one (hT_at (load16 arg1 harg1 x0 (inN_val x0) _ _ _ _ rfl) (load16 arg2 harg2 x1 (inN_val x1) _ _ _ _ rfl))

/-- The reciprocal roots, for the second half of the tokens. -/
theorem r1 : RowAt (rinvN (hN x0 x1)) 128 (kernelRun0_B.sl.r_9 c arg1 harg1 arg2 harg2 x0 x1) := by
  refine rB_at ?_
  repeat'
    refine acc_step ?_ rfl
      (hT_at (load16 arg1 harg1 x0 (inN_val x0) _ _ _ _ rfl) (load16 arg2 harg2 x1 (inN_val x1) _ _ _ _ rfl))
  exact acc_one (hT_at (load16 arg1 harg1 x0 (inN_val x0) _ _ _ _ rfl) (load16 arg2 harg2 x1 (inN_val x1) _ _ _ _ rfl))

set_option maxHeartbeats 4000000 in
/-- The codes, block by block. -/
theorem out9 (hg : ∀ k i, xs2 (ix2 k i) = g k.val) :
    View.PiecesOf (Val := Elt Ideal) (fun z : S256x7168.Idx => codeN (xN x0 x1 g) (z 0).val (z 1).val)
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3).2.2.2.1 := by
  dsimp only [kernelRun0_B]
  repeat' (first | exact trivial | refine ⟨piece_at (f := codeN (xN x0 x1 g)) (qB_at (by decide)
    (xnB_at (loadH arg12.view _ _ _ _ rfl) (by first | exact r0 | exact r1) (loadG arg14 harg14 xs2 hg _ _ _ _ rfl)))
    (by decide), ?_⟩)

set_option maxHeartbeats 4000000 in
/-- The scales, as kept in scratch. -/
theorem hs4 (hg : ∀ k i, xs2 (ix2 k i) = g k.val) :
    View.PiecesOf (Val := Elt Ideal) (fun z : S56x256.Idx => sclN (xN x0 x1 g) (z 1).val (z 0).val)
    (kernelRun0_B.sl.HS4_112 c arg1 harg1 arg2 harg2 arg12 arg14 harg14 x0 x1 xs2) := by
  dsimp only [kernelRun0_B.sl.HS4_112]
  repeat' (first | exact trivial | refine ⟨piece_at (f := fun j i => sclN (xN x0 x1 g) i j) (sB_at' (by decide)
    (xnB_at (loadH arg12.view _ _ _ _ rfl) (by first | exact r0 | exact r1) (loadG arg14 harg14 xs2 hg _ _ _ _ rfl)))
    (by decide), ?_⟩)

/-- The scales of one half of the tokens, read back from that scratch. -/
theorem loadS (hg : ∀ k i, xs2 (ix2 k i) = g k.val) (v : View sig .tc .vmem S56x256 .f32) (a : ℕ)
    (inb : ∀ d, ![0, a] d + ![56, 128] d ≤ ![56, 256] d) (u : Vec Ideal S56x128 .f32)
    (hu : u = v.readCov (kernelRun0_B.sl.HS4_112 c arg1 harg1 arg2 harg2 arg12 arg14 harg14 x0 x1 xs2)
      (Rect.unit (s := S56x256) ![0, a] ![56, 128] inb).toLoadRect) :
    At (fun j i => sclN (xN x0 x1 g) i j) 0 a u := fun j i =>
  readCov_at (f := fun j i => sclN (xN x0 x1 g) i j) v _ (hs4 hg)
    (View.cover_of_tiledL _ S1x128.size (by sl_kernel_rfl)) 0 a inb u hu j i

/-- The scales. -/
theorem out10 (hg : ∀ k i, xs2 (ix2 k i) = g k.val) :
    View.PiecesOf (Val := Elt Ideal) (fun z : S256x56.Idx => sclN (xN x0 x1 g) (z 0).val (z 1).val)
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3).2.2.2.2.1 := by
  dsimp only [kernelRun0_B]
  exact ⟨piece_at (f := fun i j => sclN (xN x0 x1 g) i j) (a := 128) (m := 256) (n := 56)
      (sT_at (loadS hg arg16.view _ _ _ rfl)) (by decide),
    piece_at (f := fun i j => sclN (xN x0 x1 g) i j) (a := 0) (m := 256) (n := 56)
      (sT_at (loadS hg arg16.view _ _ _ rfl)) (by decide), trivial⟩

set_option maxHeartbeats 4000000 in
/-- The projection. -/
theorem y28 (hg : ∀ k i, xs2 (ix2 k i) = g k.val) (hW : ∀ o k, xs1 (ix2 o k) = W o.val k.val) :
    AccY W (deqN (xN x0 x1 g)) 28
      (kernelRun0_B.sl.r_58 c arg1 harg1 arg2 harg2 arg12 arg13 harg13 arg14 harg14 x0 x1 xs1 xs2) := by
  repeat'
    refine accY_step ?_ (by decide) (by decide) (load16 arg13 harg13 xs1 hW _ _ _ _ rfl)
      (xnB_at (loadH arg12.view _ _ _ _ rfl) r0 (loadG arg14 harg14 xs2 hg _ _ _ _ rfl))
      (xnB_at (loadH arg12.view _ _ _ _ rfl) r0 (loadG arg14 harg14 xs2 hg _ _ _ _ rfl))
      (xnB_at (loadH arg12.view _ _ _ _ rfl) r1 (loadG arg14 harg14 xs2 hg _ _ _ _ rfl))
      (xnB_at (loadH arg12.view _ _ _ _ rfl) r1 (loadG arg14 harg14 xs2 hg _ _ _ _ rfl))
  exact accY_one (load16 arg13 harg13 xs1 hW _ _ _ _ rfl)
    (xnB_at (loadH arg12.view _ _ _ _ rfl) r0 (loadG arg14 harg14 xs2 hg _ _ _ _ rfl))
    (xnB_at (loadH arg12.view _ _ _ _ rfl) r0 (loadG arg14 harg14 xs2 hg _ _ _ _ rfl))
    (xnB_at (loadH arg12.view _ _ _ _ rfl) r1 (loadG arg14 harg14 xs2 hg _ _ _ _ rfl))
    (xnB_at (loadH arg12.view _ _ _ _ rfl) r1 (loadG arg14 harg14 xs2 hg _ _ _ _ rfl))

/-- The last part of the projection. -/
theorem out7 (hg : ∀ k i, xs2 (ix2 k i) = g k.val) (hW : ∀ o k, xs1 (ix2 o k) = W o.val k.val) :
    View.PiecesOf (Val := Elt Ideal) (fun z : S256x64.Idx => pN W (deqN (xN x0 x1 g)) (512 + (z 1).val) (z 0).val)
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3).2.1 := by
  dsimp only [kernelRun0_B]
  exact ⟨piece_at (f := fun i o => pN W (deqN (xN x0 x1 g)) (512 + o) i) (pay2_at (accY_all (y28 hg hW))) (by decide),
    piece_at (f := fun i o => pN W (deqN (xN x0 x1 g)) (512 + o) i) (pay2026_at (accY_all (y28 hg hW))) (by decide), trivial⟩

/-- The normalised latent. -/
theorem out6 (hg : ∀ k i, xs2 (ix2 k i) = g k.val) (hW : ∀ o k, xs1 (ix2 o k) = W o.val k.val)
    (hgt : ∀ o i, xs3 (ix2 o i) = gt o.val) :
    View.PiecesOf (Val := Elt Ideal) (fun z : S256x512.Idx => latN (pN W (deqN (xN x0 x1 g))) gt (z 0).val (z 1).val)
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3).1 := by
  dsimp only [kernelRun0_B]
  exact ⟨piece_at (f := latN (pN W (deqN (xN x0 x1 g))) gt)
      (pay1_at (accY_all (y28 hg hW)) (load32 (f := fun o _ => gt o) arg15 harg15 xs3 hgt _ _ _ _ rfl)) (by decide),
    piece_at (f := latN (pN W (deqN (xN x0 x1 g))) gt)
      (pay2025_at (accY_all (y28 hg hW)) (load32 (f := fun o _ => gt o) arg15 harg15 xs3 hgt _ _ _ _ rfl)) (by decide), trivial⟩

end Cert.KernelIdeal.CaseB

end
-- ==== Proof.Point.lean ====
module

public import proofs.«01_k».proof.Proof.CaseA
public import proofs.«01_k».proof.Proof.CaseB

@[expose] public section

set_option maxRecDepth 200000

/-! # What each grid point leaves in its buffers

The stores of a grid point cover each result's block, and each of them stores a piece of one function; so the block is
that function. The first grid point (case A) also prepares the three scratch arrays, which the others (case B) read. -/

noncomputable section

namespace Cert.KernelIdeal.Point

open Idealize.ShloMosaic Idealize.ShloMosaic.Pointwise Cert.Down
open Cert.KernelIdeal Cert.KernelIdeal.Gen Cert.KernelIdeal.Steps

/-- A buffer that is covered by stores of pieces of one function holds that function. -/
theorem read_pieces {sg : RefSig} {κ : Kind} {sp : Space} {s : Shape} {e : EltTy} (v : View sg κ sp s e)
    (f : v.ty.Contents (Elt Ideal)) (L : List (View.Piece (Elt Ideal) s e)) (G : s.Idx → Elt Ideal e)
    (hc : ∀ y, ∃ pc ∈ L, y ∈ pc.1.set) (hP : View.PiecesOf G L) : v.read (Elt Ideal) (v.writes (Elt Ideal) f L) = G := by
  rw [View.read_writes_eq_canon _ _ _ hc]
  funext y
  exact View.canon_apply_of_pieces G L (View.PiecesOf.mem hP) y (hc y)

section A

variable {c : Dev nD} {i : grid0.Coords} {arg1 : Memref sig .tc .vmem S256x7168 .bf16} {harg1 : arg1.IsWhole} {arg2 : Memref sig .tc .vmem S256x7168 .bf16} {harg2 : arg2.IsWhole} {arg3 : Memref sig .tc .vmem S56x128 .f32} {harg3 : arg3.IsWhole} {arg4 : Memref sig .tc .vmem S576x7168 .fp8e4m3} {harg4 : arg4.IsWhole} {arg5 : Memref sig .tc .smem S5x56 .f32} {harg5 : arg5.IsWhole} {arg6 : Memref sig .tc .vmem S4x128 .f32} {harg6 : arg6.IsWhole} {arg7 : Memref sig .tc .vmem S256x512 .bf16} {harg7 : arg7.IsWhole} {arg8 : Memref sig .tc .vmem S256x64 .bf16} {harg8 : arg8.IsWhole} {arg9 : Memref sig .tc .vmem S256x7168 .bf16} {harg9 : arg9.IsWhole} {arg10 : Memref sig .tc .vmem S256x7168 .fp8e4m3} {harg10 : arg10.IsWhole} {arg11 : Memref sig .tc .vmem S256x56 .f32} {harg11 : arg11.IsWhole} {arg12 : Memref sig .tc .vmem S7168x256 .bf16} {harg12 : arg12.IsWhole} {arg13 : Memref sig .tc .vmem S576x7168 .bf16} {harg13 : arg13.IsWhole} {arg14 : Memref sig .tc .vmem S7168x128 .f32} {harg14 : arg14.IsWhole} {arg15 : Memref sig .tc .vmem S512x128 .f32} {harg15 : arg15.IsWhole} {arg16 : Memref sig .tc .vmem S56x256 .f32} {harg16 : arg16.IsWhole} {hc0 : cond0_0 i}
  {x0 : Vec Ideal S256x7168 .bf16} {x1 : Vec Ideal S256x7168 .bf16} {x2 : Vec Ideal S56x128 .f32} {x3 : Vec Ideal S576x7168 .fp8e4m3} {x4 : Vec Ideal S5x56 .f32} {x5 : Vec Ideal S4x128 .f32}

/-- The normalised latent, at the first point. -/
theorem A6 : out0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5
    = fun z : S256x512.Idx => latN (pN (wN x3 x4) (deqN (xN x0 x1 (gN x2)))) (gN x5) (z 0).val (z 1).val :=
  read_pieces _ _ _ _ (cover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5) CaseA.out6

/-- The rest of the projection, at the first point. -/
theorem A7 : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5
    = fun z : S256x64.Idx => pN (wN x3 x4) (deqN (xN x0 x1 (gN x2))) (512 + (z 1).val) (z 0).val :=
  read_pieces _ _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5) CaseA.out7

/-- The sum of the inputs, at the first point. -/
theorem A8 : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5
    = fun z : S256x7168.Idx => hN x0 x1 (z 0).val (z 1).val :=
  read_pieces _ _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5) CaseA.out8

/-- The codes, at the first point. -/
theorem A9 : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5
    = fun z : S256x7168.Idx => codeN (xN x0 x1 (gN x2)) (z 0).val (z 1).val :=
  read_pieces _ _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5) CaseA.out9

/-- The scales, at the first point. -/
theorem A10 : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5
    = fun z : S256x56.Idx => sclN (xN x0 x1 (gN x2)) (z 0).val (z 1).val :=
  read_pieces _ _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5) CaseA.out10

/-- Scratch array 1, after the first point. -/
theorem scratch1 : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5
    = fun z : S576x7168.Idx => wN x3 x4 (z 0).val (z 1).val :=
  read_pieces _ _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5) CaseA.hs1

/-- Scratch array 2, after the first point. -/
theorem scratch2 : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5
    = fun z : S7168x128.Idx => gN x2 (z 0).val :=
  read_pieces _ _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5) CaseA.hs2

/-- Scratch array 3, after the first point. -/
theorem scratch3 : sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5
    = fun z : S512x128.Idx => gN x5 (z 0).val :=
  read_pieces _ _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5) CaseA.hs3

end A

section B

variable {c : Dev nD} {i : grid0.Coords} {arg1 : Memref sig .tc .vmem S256x7168 .bf16} {harg1 : arg1.IsWhole} {arg2 : Memref sig .tc .vmem S256x7168 .bf16} {harg2 : arg2.IsWhole} {arg3 : Memref sig .tc .vmem S56x128 .f32} {harg3 : arg3.IsWhole} {arg4 : Memref sig .tc .vmem S576x7168 .fp8e4m3} {harg4 : arg4.IsWhole} {arg5 : Memref sig .tc .smem S5x56 .f32} {harg5 : arg5.IsWhole} {arg6 : Memref sig .tc .vmem S4x128 .f32} {harg6 : arg6.IsWhole} {arg7 : Memref sig .tc .vmem S256x512 .bf16} {harg7 : arg7.IsWhole} {arg8 : Memref sig .tc .vmem S256x64 .bf16} {harg8 : arg8.IsWhole} {arg9 : Memref sig .tc .vmem S256x7168 .bf16} {harg9 : arg9.IsWhole} {arg10 : Memref sig .tc .vmem S256x7168 .fp8e4m3} {harg10 : arg10.IsWhole} {arg11 : Memref sig .tc .vmem S256x56 .f32} {harg11 : arg11.IsWhole} {arg12 : Memref sig .tc .vmem S7168x256 .bf16} {harg12 : arg12.IsWhole} {arg13 : Memref sig .tc .vmem S576x7168 .bf16} {harg13 : arg13.IsWhole} {arg14 : Memref sig .tc .vmem S7168x128 .f32} {harg14 : arg14.IsWhole} {arg15 : Memref sig .tc .vmem S512x128 .f32} {harg15 : arg15.IsWhole} {arg16 : Memref sig .tc .vmem S56x256 .f32} {harg16 : arg16.IsWhole} {hc0 : ¬cond0_0 i}
  {x0 : Vec Ideal S256x7168 .bf16} {x1 : Vec Ideal S256x7168 .bf16} {x2 : Vec Ideal S56x128 .f32} {x3 : Vec Ideal S576x7168 .fp8e4m3} {x4 : Vec Ideal S5x56 .f32} {x5 : Vec Ideal S4x128 .f32}
  {xs1 : Vec Ideal S576x7168 .bf16} {xs2 : Vec Ideal S7168x128 .f32} {xs3 : Vec Ideal S512x128 .f32}
  {g gt : ℕ → EReal} {W : ℕ → ℕ → EReal}

/-- The normalised latent, at the other points. -/
theorem B6 (hg : ∀ k i, xs2 (ix2 k i) = g k.val) (hW : ∀ o k, xs1 (ix2 o k) = W o.val k.val)
    (hgt : ∀ o i, xs3 (ix2 o i) = gt o.val) : out0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3
    = fun z : S256x512.Idx => latN (pN W (deqN (xN x0 x1 g))) gt (z 0).val (z 1).val :=
  read_pieces _ _ _ _ (cover0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3) (CaseB.out6 hg hW hgt)

/-- The rest of the projection, at the other points. -/
theorem B7 (hg : ∀ k i, xs2 (ix2 k i) = g k.val) (hW : ∀ o k, xs1 (ix2 o k) = W o.val k.val) : out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3
    = fun z : S256x64.Idx => pN W (deqN (xN x0 x1 g)) (512 + (z 1).val) (z 0).val :=
  read_pieces _ _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3) (CaseB.out7 hg hW)

/-- The sum of the inputs, at the other points. -/
theorem B8 : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3
    = fun z : S256x7168.Idx => hN x0 x1 (z 0).val (z 1).val :=
  read_pieces _ _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3) CaseB.out8

/-- The codes, at the other points. -/
theorem B9 (hg : ∀ k i, xs2 (ix2 k i) = g k.val) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3
    = fun z : S256x7168.Idx => codeN (xN x0 x1 g) (z 0).val (z 1).val :=
  read_pieces _ _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3) (CaseB.out9 hg)

/-- The scales, at the other points. -/
theorem B10 (hg : ∀ k i, xs2 (ix2 k i) = g k.val) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3
    = fun z : S256x56.Idx => sclN (xN x0 x1 g) (z 0).val (z 1).val :=
  read_pieces _ _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 xs1 xs2 xs3) (CaseB.out10 hg)

end B

end Cert.KernelIdeal.Point

end
-- ==== Proof.Result.lean ====
module

public import proofs.«01_k».proof.Proof.Spec
public import Idealize.ShloMosaic.Lib.Pointwise

@[expose] public section

/-! # The five results as arrays

Each result of the down projection, as a function of the six arguments. -/

noncomputable section

namespace Cert.Down

open Idealize.ShloMosaic Idealize.ShloMosaic.Pointwise

/-- A shape cast that joins the first two axes. -/
theorem cast32 {α : Type} {p q r n : ℕ} (x : (⟨3, ![p, q, r]⟩ : Shape).Idx → α) (h : Shape.ShapeCasts ⟨3, ![p, q, r]⟩ ⟨2, ![n, r]⟩)
    (i : Fin n) (k : Fin r) (hp : i.val / q < p) (hq : i.val % q < q) :
    shapeCast ⟨2, ![n, r]⟩ x h (ix2 i k) = x (ix3 ⟨i.val / q, hp⟩ ⟨i.val % q, hq⟩ k) :=
  shapeCast_apply _ _ _ _ (by
    rw [Shape.rowMajor_val_three, Shape.rowMajor_val_two]
    show (i.val / q * q + i.val % q) * r + k.val = i.val * r + k.val
    rw [Nat.div_add_mod'])

/-- A shape cast that splits an axis. -/
theorem cast12 {α : Type} {a b n : ℕ} (x : (⟨1, ![n]⟩ : Shape).Idx → α) (h : Shape.ShapeCasts ⟨1, ![n]⟩ ⟨2, ![a, b]⟩)
    (i : Fin a) (j : Fin b) (hn : i.val * b + j.val < n) :
    shapeCast ⟨2, ![a, b]⟩ x h (ix2 i j) = x (ix1 ⟨i.val * b + j.val, hn⟩) :=
  shapeCast_apply _ _ _ _ (by
    rw [Shape.rowMajor_val_one, Shape.rowMajor_val_two]
    rfl)

/-- The sum of the two inputs, for token `i`. -/
def tok (X D : Vec Ideal ⟨3, ![3, 8192, 7168]⟩ .bf16) (i : Fin 24576) (k : Fin 7168) : EReal :=
  X (ix3 ⟨i.val / 8192, by omega⟩ ⟨i.val % 8192, by omega⟩ k) + D (ix3 ⟨i.val / 8192, by omega⟩ ⟨i.val % 8192, by omega⟩ k)

/-- The weights of a normalisation. -/
def vec {n : ℕ} (g : Vec Ideal ⟨1, ![n]⟩ .f32) (k : Fin n) : EReal := g (ix1 k)

/-- Row `o` of the weight matrix, times its block scales. -/
def wrow (w : Vec Ideal ⟨2, ![576, 7168]⟩ .fp8e4m3) (s : Vec Ideal ⟨2, ![5, 56]⟩ .f32) (o : Fin 576) (k : Fin 7168) : EReal :=
  w (ix2 o k) * s (ix2 ⟨o.val / 128, by omega⟩ ⟨k.val / 128, by omega⟩)

variable (X D : Vec Ideal ⟨3, ![3, 8192, 7168]⟩ .bf16) (g : Vec Ideal ⟨1, ![7168]⟩ .f32)
variable (w : Vec Ideal ⟨2, ![576, 7168]⟩ .fp8e4m3) (s : Vec Ideal ⟨2, ![5, 56]⟩ .f32) (gl : Vec Ideal ⟨1, ![512]⟩ .f32)

/-- The normalised sum, for token `i`. -/
def norm (i : Fin 24576) : Fin 7168 → EReal := xn (tok X D i) (vec g)

/-- Entry `o` of token `i`'s projection. -/
def down (i : Fin 24576) (o : Fin 576) : EReal := proj (deq (norm X D g i)) (wrow w s o)

/-- The normalised latent. -/
def resC : Vec Ideal ⟨2, ![24576, 512]⟩ .bf16 := fun z =>
  latent (fun o => down X D g w s (z 0) ⟨o.val, by omega⟩) (vec gl) (z 1)

/-- The part of the projection that is not normalised. -/
def resK : Vec Ideal ⟨2, ![24576, 64]⟩ .bf16 := fun z =>
  down X D g w s (z 0) ⟨512 + (show Fin 64 from z 1).val, by have := (show Fin 64 from z 1).isLt; omega⟩

/-- The sum of the inputs. -/
def resH : Vec Ideal ⟨2, ![24576, 7168]⟩ .bf16 := fun z => tok X D (z 0) (z 1)

/-- The codes. -/
def resQ : Vec Ideal ⟨2, ![24576, 7168]⟩ .fp8e4m3 := fun z => codes (norm X D g (z 0)) (z 1)

/-- The scales. -/
def resS : Vec Ideal ⟨2, ![24576, 56]⟩ .f32 := fun z => scale (amax (norm X D g (z 0)) (z 1))

end Cert.Down

end
-- ==== Proof.Bridge.lean ====
module

public import proofs.«01_k».proof.Proof.Prep
public import proofs.«01_k».proof.Proof.Result

@[expose] public section

/-! # From arrays indexed by natural numbers to rows

The kernel's blocks are read as functions of two natural numbers. Here each such function, at one token, is the function
of the token's row that the specification names. -/

noncomputable section

namespace Cert.KernelIdeal.Steps

open Idealize.ShloMosaic Idealize.ShloMosaic.Pointwise Cert.Down
open Cert.KernelIdeal Cert.KernelIdeal.Gen

/-- Entry `k` of the sum of two blocks' rows. -/
def rowSum (x0 x1 : Vec Ideal S256x7168 .bf16) (i : Fin 256) (k : Fin 7168) : EReal := x0 (ix2 i k) + x1 (ix2 i k)

/-- The sum of the inputs, at one token. -/
theorem hN_row {x0 x1 : Vec Ideal S256x7168 .bf16} {i : Fin 256} {T : Fin 7168 → EReal}
    (h : ∀ k, rowSum x0 x1 i k = T k) (k : Fin 7168) : hN x0 x1 i.val k.val = T k := by
  rw [← h k, rowSum, inN_val x0, inN_val x1]
  rfl

/-- The normalised sum, at one token. -/
theorem xN_row {x0 x1 : Vec Ideal S256x7168 .bf16} {i : Fin 256} {T v : Fin 7168 → EReal} {g : ℕ → EReal}
    (h : ∀ k, rowSum x0 x1 i k = T k) (hg : ∀ k : Fin 7168, g k.val = v k) (k : Fin 7168) :
    xN x0 x1 g i.val k.val = xn T v k := by
  unfold xN xn rinvN rinv
  simp only [hN_row h, hg]

variable {X : ℕ → ℕ → EReal} {i : ℕ} {v : Fin 7168 → EReal}

/-- The largest magnitude of a block. -/
theorem amaxN_row (h : ∀ k : Fin 7168, X i k.val = v k) (b : Fin 56) : amaxN X i (b.val * 128) = amax v b := by
  unfold amaxN amax
  congr 1
  funext l
  rw [show X i (b.val * 128 + l.val) = v (blk b l) from h (blk b l)]

/-- The code of an entry. -/
theorem codeN_row (h : ∀ k : Fin 7168, X i k.val = v k) (k : Fin 7168) : codeN X i k.val = codes v k := by
  unfold codeN codes
  rw [h k, show amaxN X i (start k.val) = amax v (blkOf k) from amaxN_row h (blkOf k)]

/-- The code of an entry times its scale. -/
theorem deqN_row (h : ∀ k : Fin 7168, X i k.val = v k) (k : Fin 7168) : deqN X i k.val = deq v k := by
  unfold deqN deq
  rw [codeN_row h k, show amaxN X i (start k.val) = amax v (blkOf k) from amaxN_row h (blkOf k)]

/-- The scale of a block. -/
theorem sclN_row (h : ∀ k : Fin 7168, X i k.val = v k) (b : Fin 56) : sclN X i b.val = scale (amax v b) := by
  unfold sclN
  rw [amaxN_row h b]

/-- One entry of the projection. -/
theorem pN_row {W D : ℕ → ℕ → EReal} {o i : ℕ} {u w : Fin 7168 → EReal} (hD : ∀ k : Fin 7168, D i k.val = u k)
    (hW : ∀ k : Fin 7168, W o k.val = w k) : pN W D o i = proj u w := by
  unfold pN proj
  exact Finset.sum_congr rfl fun k _ => by rw [hD k, hW k, mul_comm]

/-- The normalised latent. -/
theorem latN_row {P : ℕ → ℕ → EReal} {g : ℕ → EReal} {i : ℕ} {y γ : Fin 512 → EReal}
    (hP : ∀ o : Fin 512, P o.val i = y o) (hg : ∀ o : Fin 512, g o.val = γ o) (o : Fin 512) :
    latN P g i o.val = latent y γ o := by
  unfold latN latent
  simp only [hP, hg]

end Cert.KernelIdeal.Steps

end
-- ==== Proof.KerArray.lean ====
module

public import proofs.«01_k».proof.Proof.Point
public import proofs.«01_k».proof.Proof.Bridge
public import proofs.«01_k».proof.Proof.Gen.KernelIdeal.Value

@[expose] public section

set_option maxRecDepth 16384

/-! # The kernel's arrays

Grid point `t` computes the tokens from `256 t` on. Every point finds in scratch what the first point prepared, so each
result array is, at every index, what the specification says. -/

noncomputable section

namespace Cert.KernelIdeal.KerArray

open Idealize.ShloMosaic Idealize.ShloMosaic.TcCoe Idealize.ShloMosaic.Pointwise Cert.Down
open Cert.KernelIdeal Cert.KernelIdeal.Gen Cert.KernelIdeal.Value Cert.KernelIdeal.Steps Cert.KernelIdeal.Point

variable (m : (ℓ : Loc nD τ sig) → Buf (Elt Ideal) ℓ) (c : Dev nD)

/-! ## The arguments, as the region finds them -/

/-- The first input. -/
theorem V_x (i : Fin 24576) (k : Fin 7168) :
    (V m c main_v0 : Vec Ideal S24576x7168 .bf16) (ix2 i k)
      = (m ((c : Thread nD τ).loc main_arg0) : Vec Ideal S3x8192x7168 .bf16) (ix3 ⟨i.val / 8192, by omega⟩ ⟨i.val % 8192, by omega⟩ k) := by
  have e : V m c main_v0 = shapeCast S24576x7168 (m ((c : Thread nD τ).loc main_arg0) : Vec Ideal S3x8192x7168 .bf16) shapeCasts_S3x8192x7168_S24576x7168 := by
    show StableHlo.after hostOps0 _ (Proc.devRef .tc main_v0) = _
    after_results
    rfl
  rw [e]
  exact cast32 _ _ i k _ _

/-- The second input. -/
theorem V_d (i : Fin 24576) (k : Fin 7168) :
    (V m c main_v1 : Vec Ideal S24576x7168 .bf16) (ix2 i k)
      = (m ((c : Thread nD τ).loc main_arg1) : Vec Ideal S3x8192x7168 .bf16) (ix3 ⟨i.val / 8192, by omega⟩ ⟨i.val % 8192, by omega⟩ k) := by
  have e : V m c main_v1 = shapeCast S24576x7168 (m ((c : Thread nD τ).loc main_arg1) : Vec Ideal S3x8192x7168 .bf16) shapeCasts_S3x8192x7168_S24576x7168 := by
    show StableHlo.after hostOps0 _ (Proc.devRef .tc main_v1) = _
    after_results
    rfl
  rw [e]
  exact cast32 _ _ i k _ _

/-- The weights of the first normalisation. -/
theorem V_g (k : Fin 7168) : gN (V m c main_v2 : Vec Ideal S56x128 .f32) k.val = vec (m ((c : Thread nD τ).loc main_arg2) : Vec Ideal S7168 .f32) k := by
  have e : V m c main_v2 = shapeCast S56x128 (m ((c : Thread nD τ).loc main_arg2) : Vec Ideal S7168 .f32) shapeCasts_S7168_S56x128 := by
    show StableHlo.after hostOps0 _ (Proc.devRef .tc main_v2) = _
    after_results
    rfl
  rw [e]
  refine (in32_val _ (⟨k.val / 128, by omega⟩ : Fin 56) (⟨k.val % 128, by omega⟩ : Fin 128)).symm.trans ?_
  refine (cast12 _ _ _ _ (by show k.val / 128 * 128 + k.val % 128 < 7168; omega)).trans ?_
  exact congrArg _ (congrArg ix1 (Fin.ext (Nat.div_add_mod' k.val 128)))

/-- The weights of the second normalisation. -/
theorem V_gl (k : Fin 512) : gN (V m c main_v3 : Vec Ideal S4x128 .f32) k.val = vec (m ((c : Thread nD τ).loc main_arg5) : Vec Ideal S512 .f32) k := by
  have e : V m c main_v3 = shapeCast S4x128 (m ((c : Thread nD τ).loc main_arg5) : Vec Ideal S512 .f32) shapeCasts_S512_S4x128 := by
    show StableHlo.after hostOps0 _ (Proc.devRef .tc main_v3) = _
    after_results
    rfl
  rw [e]
  refine (in32_val _ (⟨k.val / 128, by omega⟩ : Fin 4) (⟨k.val % 128, by omega⟩ : Fin 128)).symm.trans ?_
  refine (cast12 _ _ _ _ (by show k.val / 128 * 128 + k.val % 128 < 512; omega)).trans ?_
  exact congrArg _ (congrArg ix1 (Fin.ext (Nat.div_add_mod' k.val 128)))

/-- The weight matrix times its scales. -/
theorem V_w (o : Fin 576) (k : Fin 7168) :
    wN (V m c main_arg3) (V m c main_arg4) o.val k.val
      = wrow (m ((c : Thread nD τ).loc main_arg3)) (m ((c : Thread nD τ).loc main_arg4)) o k := by
  rw [V_main_arg3, V_main_arg4]
  unfold wN wrow
  exact (congrArg₂ (fun a b : EReal => a * b) (in8_val _ o k)
    (in32_val _ (⟨o.val / 128, by omega⟩ : Fin 5) (⟨k.val / 128, by omega⟩ : Fin 56))).symm

/-! ## The blocks that a point reads -/

/-- Input 2 is staged whole, at every point. -/
theorem in2 (t : Fin cfg0.N) : (iblk m c 2 t : Vec Ideal S56x128 .f32) = (V m c main_v2 : Vec Ideal S56x128 .f32) := by
  funext y
  have h : ∀ (t : Fin cfg0.N) (a : Fin 2), win0_2.index t a = 0 := by decide +kernel
  refine congrArg (V m c main_v2 : Vec Ideal S56x128 .f32) (funext fun a => Fin.ext ?_)
  show win0_2.index t a * _ + 1 * (y a).val = (y a).val
  rw [h t a, Nat.zero_mul, Nat.zero_add, Nat.one_mul]

/-- Input 3 is staged whole, at every point. -/
theorem in3 (t : Fin cfg0.N) : (iblk m c 3 t : Vec Ideal S576x7168 .fp8e4m3) = (V m c main_arg3 : Vec Ideal S576x7168 .fp8e4m3) := by
  funext y
  have h : ∀ (t : Fin cfg0.N) (a : Fin 2), win0_3.index t a = 0 := by decide +kernel
  refine congrArg (V m c main_arg3 : Vec Ideal S576x7168 .fp8e4m3) (funext fun a => Fin.ext ?_)
  show win0_3.index t a * _ + 1 * (y a).val = (y a).val
  rw [h t a, Nat.zero_mul, Nat.zero_add, Nat.one_mul]

/-- Input 4 is staged whole, at every point. -/
theorem in4 (t : Fin cfg0.N) : (iblk m c 4 t : Vec Ideal S5x56 .f32) = (V m c main_arg4 : Vec Ideal S5x56 .f32) := by
  funext y
  have h : ∀ (t : Fin cfg0.N) (a : Fin 2), win0_4.index t a = 0 := by decide +kernel
  refine congrArg (V m c main_arg4 : Vec Ideal S5x56 .f32) (funext fun a => Fin.ext ?_)
  show win0_4.index t a * _ + 1 * (y a).val = (y a).val
  rw [h t a, Nat.zero_mul, Nat.zero_add, Nat.one_mul]

/-- Input 5 is staged whole, at every point. -/
theorem in5 (t : Fin cfg0.N) : (iblk m c 5 t : Vec Ideal S4x128 .f32) = (V m c main_v3 : Vec Ideal S4x128 .f32) := by
  funext y
  have h : ∀ (t : Fin cfg0.N) (a : Fin 2), win0_5.index t a = 0 := by decide +kernel
  refine congrArg (V m c main_v3 : Vec Ideal S4x128 .f32) (funext fun a => Fin.ext ?_)
  show win0_5.index t a * _ + 1 * (y a).val = (y a).val
  rw [h t a, Nat.zero_mul, Nat.zero_add, Nat.one_mul]

/-- Point `t` reads the rows of the first input from `256 t` on. -/
theorem in0 (t : Fin cfg0.N) (i : Fin 256) (k : Fin 7168) (n : Fin 24576) (hn : n.val = t.val * 256 + i.val) :
    (iblk m c 0 t : Vec Ideal S256x7168 .bf16) (ix2 i k) = (V m c main_v0 : Vec Ideal S24576x7168 .bf16) (ix2 n k) := by
  have h : ∀ t : Fin cfg0.N, win0_0.index t (0 : Fin 2) = t.val ∧ win0_0.index t (1 : Fin 2) = 0 := by decide +kernel
  refine congrArg (V m c main_v0 : Vec Ideal S24576x7168 .bf16) (funext fun a => Fin.ext ?_)
  match a with
  | ⟨0, _⟩ =>
    show win0_0.index t (0 : Fin 2) * 256 + 1 * i.val = n.val
    rw [(h t).1, hn, Nat.one_mul]
  | ⟨1, _⟩ =>
    show win0_0.index t (1 : Fin 2) * 7168 + 1 * k.val = k.val
    rw [(h t).2, Nat.zero_mul, Nat.zero_add, Nat.one_mul]

/-- Point `t` reads the rows of the second input from `256 t` on. -/
theorem in1 (t : Fin cfg0.N) (i : Fin 256) (k : Fin 7168) (n : Fin 24576) (hn : n.val = t.val * 256 + i.val) :
    (iblk m c 1 t : Vec Ideal S256x7168 .bf16) (ix2 i k) = (V m c main_v1 : Vec Ideal S24576x7168 .bf16) (ix2 n k) := by
  have h : ∀ t : Fin cfg0.N, win0_1.index t (0 : Fin 2) = t.val ∧ win0_1.index t (1 : Fin 2) = 0 := by decide +kernel
  refine congrArg (V m c main_v1 : Vec Ideal S24576x7168 .bf16) (funext fun a => Fin.ext ?_)
  match a with
  | ⟨0, _⟩ =>
    show win0_1.index t (0 : Fin 2) * 256 + 1 * i.val = n.val
    rw [(h t).1, hn, Nat.one_mul]
  | ⟨1, _⟩ =>
    show win0_1.index t (1 : Fin 2) * 7168 + 1 * k.val = k.val
    rw [(h t).2, Nat.zero_mul, Nat.zero_add, Nat.one_mul]

/-- The rows of the sum at point `t` are tokens. -/
theorem row_h (t : Fin cfg0.N) (i : Fin 256) (n : Fin 24576) (hn : n.val = t.val * 256 + i.val) (k : Fin 7168) :
    rowSum (iblk m c 0 t) (iblk m c 1 t) i k
      = tok (m ((c : Thread nD τ).loc main_arg0)) (m ((c : Thread nD τ).loc main_arg1)) n k :=
  congrArg₂ (fun a b : EReal => a + b) ((in0 m c t i k n hn).trans (V_x m c n k)) ((in1 m c t i k n hn).trans (V_d m c n k))

/-! ## The scratch arrays -/

/-- After every point, the scratch arrays hold what the first point prepared. -/
theorem scratch (n : ℕ) : ∀ hn : n < cfg0.N,
    (∀ o k, (outsAt0 m c n hn).2.2.2.2.2.1 (ix2 o k) = wN (V m c main_arg3) (V m c main_arg4) o.val k.val)
    ∧ (∀ k i, (outsAt0 m c n hn).2.2.2.2.2.2.1 (ix2 k i) = gN (V m c main_v2 : Vec Ideal S56x128 .f32) k.val)
    ∧ (∀ o i, (outsAt0 m c n hn).2.2.2.2.2.2.2 (ix2 o i) = gN (V m c main_v3 : Vec Ideal S4x128 .f32) o.val) := by
  induction n with
  | zero =>
    intro hn
    have e := outsAt0_A m c ⟨0, hn⟩ (Nat.zero_mod _)
    refine ⟨fun o k => ?_, fun k i => ?_, fun o i => ?_⟩
    · refine (congrFun (congrArg (fun p => p.2.2.2.2.2.1) e) _).trans ?_
      rw [← in3 m c ⟨0, hn⟩, ← in4 m c ⟨0, hn⟩]
      dsimp only
      rw [scratch1]
      rfl
    · refine (congrFun (congrArg (fun p => p.2.2.2.2.2.2.1) e) _).trans ?_
      rw [← in2 m c ⟨0, hn⟩]
      dsimp only
      rw [scratch2]
      rfl
    · refine (congrFun (congrArg (fun p => p.2.2.2.2.2.2.2) e) _).trans ?_
      rw [← in5 m c ⟨0, hn⟩]
      dsimp only
      rw [scratch3]
      rfl
  | succ n ih =>
    intro hn
    have hN := lt_of_lt_of_eq hn (show cfg0.N = 96 from N_0)
    have e := outsAt0_B m c ⟨n + 1, hn⟩ (by show ¬(n + 1) % 96 = 0; omega)
    have i := ih (Nat.lt_of_succ_lt hn)
    exact ⟨fun o k => (congrFun (congrArg (fun p => p.2.2.2.2.2.1) e) _).trans (i.1 o k),
      fun k l => (congrFun (congrArg (fun p => p.2.2.2.2.2.2.1) e) _).trans (i.2.1 k l),
      fun o l => (congrFun (congrArg (fun p => p.2.2.2.2.2.2.2) e) _).trans (i.2.2 o l)⟩

/-! ## What a point leaves -/

/-- The normalised latent, at point `t`. -/
theorem point6 (t : Fin cfg0.N) : (outsAt0 m c t.val t.isLt).1
    = fun z : S256x512.Idx => latN (pN (wN (V m c main_arg3) (V m c main_arg4)) (deqN (xN (iblk m c 0 t) (iblk m c 1 t) (gN (V m c main_v2 : Vec Ideal S56x128 .f32))))) (gN (V m c main_v3 : Vec Ideal S4x128 .f32)) (z 0).val (z 1).val := by
  by_cases h0 : t.val % 96 = 0
  · refine (congrArg (fun p => p.1) (outsAt0_A m c t h0)).trans ?_
    rw [← in2 m c t, ← in3 m c t, ← in4 m c t, ← in5 m c t]
    dsimp only
    exact A6
  · obtain ⟨s1, s2, s3⟩ := scratch m c (t.val - 1) (Nat.lt_of_le_of_lt (Nat.sub_le _ _) t.isLt)
    refine (congrArg (fun p => p.1) (outsAt0_B m c t h0)).trans ?_
    dsimp only
    exact B6 s2 s1 s3

/-- The rest of the projection, at point `t`. -/
theorem point7 (t : Fin cfg0.N) : (outsAt0 m c t.val t.isLt).2.1
    = fun z : S256x64.Idx => pN (wN (V m c main_arg3) (V m c main_arg4)) (deqN (xN (iblk m c 0 t) (iblk m c 1 t) (gN (V m c main_v2 : Vec Ideal S56x128 .f32)))) (512 + (z 1).val) (z 0).val := by
  by_cases h0 : t.val % 96 = 0
  · refine (congrArg (fun p => p.2.1) (outsAt0_A m c t h0)).trans ?_
    rw [← in2 m c t, ← in3 m c t, ← in4 m c t]
    dsimp only
    exact A7
  · obtain ⟨s1, s2, s3⟩ := scratch m c (t.val - 1) (Nat.lt_of_le_of_lt (Nat.sub_le _ _) t.isLt)
    refine (congrArg (fun p => p.2.1) (outsAt0_B m c t h0)).trans ?_
    dsimp only
    exact B7 s2 s1

/-- The sum of the inputs, at point `t`. -/
theorem point8 (t : Fin cfg0.N) : (outsAt0 m c t.val t.isLt).2.2.1
    = fun z : S256x7168.Idx => hN (iblk m c 0 t) (iblk m c 1 t) (z 0).val (z 1).val := by
  by_cases h0 : t.val % 96 = 0
  · refine (congrArg (fun p => p.2.2.1) (outsAt0_A m c t h0)).trans ?_
    dsimp only
    exact A8
  · obtain ⟨s1, s2, s3⟩ := scratch m c (t.val - 1) (Nat.lt_of_le_of_lt (Nat.sub_le _ _) t.isLt)
    refine (congrArg (fun p => p.2.2.1) (outsAt0_B m c t h0)).trans ?_
    dsimp only
    exact B8

/-- The codes, at point `t`. -/
theorem point9 (t : Fin cfg0.N) : (outsAt0 m c t.val t.isLt).2.2.2.1
    = fun z : S256x7168.Idx => codeN (xN (iblk m c 0 t) (iblk m c 1 t) (gN (V m c main_v2 : Vec Ideal S56x128 .f32))) (z 0).val (z 1).val := by
  by_cases h0 : t.val % 96 = 0
  · refine (congrArg (fun p => p.2.2.2.1) (outsAt0_A m c t h0)).trans ?_
    rw [← in2 m c t]
    dsimp only
    exact A9
  · obtain ⟨s1, s2, s3⟩ := scratch m c (t.val - 1) (Nat.lt_of_le_of_lt (Nat.sub_le _ _) t.isLt)
    refine (congrArg (fun p => p.2.2.2.1) (outsAt0_B m c t h0)).trans ?_
    dsimp only
    exact B9 s2

/-- The scales, at point `t`. -/
theorem point10 (t : Fin cfg0.N) : (outsAt0 m c t.val t.isLt).2.2.2.2.1
    = fun z : S256x56.Idx => sclN (xN (iblk m c 0 t) (iblk m c 1 t) (gN (V m c main_v2 : Vec Ideal S56x128 .f32))) (z 0).val (z 1).val := by
  by_cases h0 : t.val % 96 = 0
  · refine (congrArg (fun p => p.2.2.2.2.1) (outsAt0_A m c t h0)).trans ?_
    rw [← in2 m c t]
    dsimp only
    exact A10
  · obtain ⟨s1, s2, s3⟩ := scratch m c (t.val - 1) (Nat.lt_of_le_of_lt (Nat.sub_le _ _) t.isLt)
    refine (congrArg (fun p => p.2.2.2.2.1) (outsAt0_B m c t h0)).trans ?_
    dsimp only
    exact B10 s2

/-! ## The projection, at one token -/

/-- The rows of the normalised sum at point `t`. -/
theorem row_n (t : Fin cfg0.N) (i : Fin 256) (n : Fin 24576) (hn : n.val = t.val * 256 + i.val) (k : Fin 7168) :
    xN (iblk m c 0 t) (iblk m c 1 t) (gN (V m c main_v2 : Vec Ideal S56x128 .f32)) i.val k.val
      = norm (m ((c : Thread nD τ).loc main_arg0)) (m ((c : Thread nD τ).loc main_arg1)) (m ((c : Thread nD τ).loc main_arg2)) n k :=
  xN_row (row_h m c t i n hn) (V_g m c) k

/-- The projection at point `t`. -/
theorem row_p (t : Fin cfg0.N) (i : Fin 256) (n : Fin 24576) (hn : n.val = t.val * 256 + i.val) (o : Fin 576) :
    pN (wN (V m c main_arg3) (V m c main_arg4)) (deqN (xN (iblk m c 0 t) (iblk m c 1 t) (gN (V m c main_v2 : Vec Ideal S56x128 .f32)))) o.val i.val
      = down (m ((c : Thread nD τ).loc main_arg0)) (m ((c : Thread nD τ).loc main_arg1)) (m ((c : Thread nD τ).loc main_arg2)) (m ((c : Thread nD τ).loc main_arg3)) (m ((c : Thread nD τ).loc main_arg4)) n o :=
  pN_row (deqN_row (row_n m c t i n hn)) (V_w m c o)

/-! ## The result arrays -/

/-- The normalised latent. -/
theorem resC_eq : (G6 m c : Vec Ideal S24576x512 .bf16) = resC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext z
  obtain ⟨i, k, rfl⟩ : ∃ i k, z = ix2 i k := ⟨_, _, eq_ix2 z⟩
  have hk : k.val < 512 := k.isLt
  have hp : pt6Of (ix2 i k) = i.val / 256 := by
    show 1 * (i.val / 256 - 0) + 1 * (k.val / 512 - 0) = i.val / 256
    rw [Nat.div_eq_of_lt hk]
    omega
  have ht : i.val / 256 < cfg0.N := lt_of_lt_of_eq (by omega : i.val / 256 < 96) N_0.symm
  have hl : loc6Of (ix2 i k) = ix2 (⟨i.val % 256, Nat.mod_lt _ (by decide)⟩ : Fin 256) k := by
    funext a
    match a with
    | ⟨0, _⟩ => rfl
    | ⟨1, _⟩ => exact Fin.ext (Nat.mod_eq_of_lt hk)
  have hi : i.val = (⟨i.val / 256, ht⟩ : Fin cfg0.N).val * 256 + (⟨i.val % 256, Nat.mod_lt _ (by decide)⟩ : Fin 256).val :=
    (Nat.div_add_mod' i.val 256).symm
  refine (dif_pos (lt_of_eq_of_lt hp ht)).trans ?_
  rw [hl, fold0_congr m c _ _ (i.val / 256) (by omega) hp, ← outsAt0_sweep m c (i.val / 256) ht]
  refine (congrFun (point6 m c ⟨i.val / 256, ht⟩) _).trans ?_
  exact latN_row (fun p => row_p m c _ _ i hi (⟨p.val, by omega⟩ : Fin 576)) (V_gl m c) k

/-- The rest of the projection. -/
theorem resK_eq : (G7 m c : Vec Ideal S24576x64 .bf16) = resK (m ((c : Thread nD τ).loc main_arg0)) (m ((c : Thread nD τ).loc main_arg1)) (m ((c : Thread nD τ).loc main_arg2)) (m ((c : Thread nD τ).loc main_arg3)) (m ((c : Thread nD τ).loc main_arg4)) := by
  funext z
  obtain ⟨i, k, rfl⟩ : ∃ i k, z = ix2 i k := ⟨_, _, eq_ix2 z⟩
  have hk : k.val < 64 := k.isLt
  have hp : pt7Of (ix2 i k) = i.val / 256 := by
    show 1 * (i.val / 256 - 0) + 1 * (k.val / 64 - 0) = i.val / 256
    rw [Nat.div_eq_of_lt hk]
    omega
  have ht : i.val / 256 < cfg0.N := lt_of_lt_of_eq (by omega : i.val / 256 < 96) N_0.symm
  have hl : loc7Of (ix2 i k) = ix2 (⟨i.val % 256, Nat.mod_lt _ (by decide)⟩ : Fin 256) k := by
    funext a
    match a with
    | ⟨0, _⟩ => rfl
    | ⟨1, _⟩ => exact Fin.ext (Nat.mod_eq_of_lt hk)
  have hi : i.val = (⟨i.val / 256, ht⟩ : Fin cfg0.N).val * 256 + (⟨i.val % 256, Nat.mod_lt _ (by decide)⟩ : Fin 256).val :=
    (Nat.div_add_mod' i.val 256).symm
  refine (dif_pos (lt_of_eq_of_lt hp ht)).trans ?_
  rw [hl, fold0_congr m c _ _ (i.val / 256) (by omega) hp, ← outsAt0_sweep m c (i.val / 256) ht]
  refine (congrFun (point7 m c ⟨i.val / 256, ht⟩) _).trans ?_
  exact row_p m c _ _ i hi (⟨512 + k.val, by omega⟩ : Fin 576)

/-- The sum of the inputs. -/
theorem resH_eq : (G8 m c : Vec Ideal S24576x7168 .bf16) = resH (m ((c : Thread nD τ).loc main_arg0)) (m ((c : Thread nD τ).loc main_arg1)) := by
  funext z
  obtain ⟨i, k, rfl⟩ : ∃ i k, z = ix2 i k := ⟨_, _, eq_ix2 z⟩
  have hk : k.val < 7168 := k.isLt
  have hp : pt8Of (ix2 i k) = i.val / 256 := by
    show 1 * (i.val / 256 - 0) + 1 * (k.val / 7168 - 0) = i.val / 256
    rw [Nat.div_eq_of_lt hk]
    omega
  have ht : i.val / 256 < cfg0.N := lt_of_lt_of_eq (by omega : i.val / 256 < 96) N_0.symm
  have hl : loc8Of (ix2 i k) = ix2 (⟨i.val % 256, Nat.mod_lt _ (by decide)⟩ : Fin 256) k := by
    funext a
    match a with
    | ⟨0, _⟩ => rfl
    | ⟨1, _⟩ => exact Fin.ext (Nat.mod_eq_of_lt hk)
  have hi : i.val = (⟨i.val / 256, ht⟩ : Fin cfg0.N).val * 256 + (⟨i.val % 256, Nat.mod_lt _ (by decide)⟩ : Fin 256).val :=
    (Nat.div_add_mod' i.val 256).symm
  refine (dif_pos (lt_of_eq_of_lt hp ht)).trans ?_
  rw [hl, fold0_congr m c _ _ (i.val / 256) (by omega) hp, ← outsAt0_sweep m c (i.val / 256) ht]
  refine (congrFun (point8 m c ⟨i.val / 256, ht⟩) _).trans ?_
  exact hN_row (row_h m c _ _ i hi) k

/-- The codes. -/
theorem resQ_eq : (G9 m c : Vec Ideal S24576x7168 .fp8e4m3) = resQ (m ((c : Thread nD τ).loc main_arg0)) (m ((c : Thread nD τ).loc main_arg1)) (m ((c : Thread nD τ).loc main_arg2)) := by
  funext z
  obtain ⟨i, k, rfl⟩ : ∃ i k, z = ix2 i k := ⟨_, _, eq_ix2 z⟩
  have hk : k.val < 7168 := k.isLt
  have hp : pt9Of (ix2 i k) = i.val / 256 := by
    show 1 * (i.val / 256 - 0) + 1 * (k.val / 7168 - 0) = i.val / 256
    rw [Nat.div_eq_of_lt hk]
    omega
  have ht : i.val / 256 < cfg0.N := lt_of_lt_of_eq (by omega : i.val / 256 < 96) N_0.symm
  have hl : loc9Of (ix2 i k) = ix2 (⟨i.val % 256, Nat.mod_lt _ (by decide)⟩ : Fin 256) k := by
    funext a
    match a with
    | ⟨0, _⟩ => rfl
    | ⟨1, _⟩ => exact Fin.ext (Nat.mod_eq_of_lt hk)
  have hi : i.val = (⟨i.val / 256, ht⟩ : Fin cfg0.N).val * 256 + (⟨i.val % 256, Nat.mod_lt _ (by decide)⟩ : Fin 256).val :=
    (Nat.div_add_mod' i.val 256).symm
  refine (dif_pos (lt_of_eq_of_lt hp ht)).trans ?_
  rw [hl, fold0_congr m c _ _ (i.val / 256) (by omega) hp, ← outsAt0_sweep m c (i.val / 256) ht]
  refine (congrFun (point9 m c ⟨i.val / 256, ht⟩) _).trans ?_
  exact codeN_row (row_n m c _ _ i hi) k

/-- The scales. -/
theorem resS_eq : (G10 m c : Vec Ideal S24576x56 .f32) = resS (m ((c : Thread nD τ).loc main_arg0)) (m ((c : Thread nD τ).loc main_arg1)) (m ((c : Thread nD τ).loc main_arg2)) := by
  funext z
  obtain ⟨i, k, rfl⟩ : ∃ i k, z = ix2 i k := ⟨_, _, eq_ix2 z⟩
  have hk : k.val < 56 := k.isLt
  have hp : pt10Of (ix2 i k) = i.val / 256 := by
    show 1 * (i.val / 256 - 0) + 1 * (k.val / 56 - 0) = i.val / 256
    rw [Nat.div_eq_of_lt hk]
    omega
  have ht : i.val / 256 < cfg0.N := lt_of_lt_of_eq (by omega : i.val / 256 < 96) N_0.symm
  have hl : loc10Of (ix2 i k) = ix2 (⟨i.val % 256, Nat.mod_lt _ (by decide)⟩ : Fin 256) k := by
    funext a
    match a with
    | ⟨0, _⟩ => rfl
    | ⟨1, _⟩ => exact Fin.ext (Nat.mod_eq_of_lt hk)
  have hi : i.val = (⟨i.val / 256, ht⟩ : Fin cfg0.N).val * 256 + (⟨i.val % 256, Nat.mod_lt _ (by decide)⟩ : Fin 256).val :=
    (Nat.div_add_mod' i.val 256).symm
  refine (dif_pos (lt_of_eq_of_lt hp ht)).trans ?_
  rw [hl, fold0_congr m c _ _ (i.val / 256) (by omega) hp, ← outsAt0_sweep m c (i.val / 256) ht]
  refine (congrFun (point10 m c ⟨i.val / 256, ht⟩) _).trans ?_
  exact sclN_row (row_n m c _ _ i hi) k

end Cert.KernelIdeal.KerArray

end
-- ==== Proof.RefValue.lean ====
module

public import proofs.«01_k».proof.Proof.Gen.ReferenceIdeal.Value
public import proofs.«01_k».proof.Proof.Spec
public import Idealize.ShloMosaic.Lib.Pointwise

@[expose] public section

set_option maxRecDepth 16384

/-! # What the reference's body computes

Each result of the reference's body, read at one index, is the step of `Cert.Down` that it stands for. -/

noncomputable section

namespace Cert.ReferenceIdeal.RefValue

open Idealize.ShloMosaic Idealize.ShloMosaic.Pointwise Cert.Down
open Cert.ReferenceIdeal Cert.ReferenceIdeal.Gen

/-- Row `i` of the sum of two arrays. -/
def rowH (x0 x1 : Vec Ideal S24576x7168 .bf16) (i : Fin 24576) (k : Fin 7168) : EReal :=
  x0 (ix2 i k) + x1 (ix2 i k)

/-- The weights of the first norm. -/
def rowG (x2 : Vec Ideal S1x7168 .f32) (k : Fin 7168) : EReal := x2 (ix2 0 k)

variable (x0 x1 : Vec Ideal S24576x7168 .bf16) (x2 : Vec Ideal S1x7168 .f32)
variable (x3 : Vec Ideal S576x7168 .fp8e4m3) (x4 : Vec Ideal S576x7168 .f32) (x5 : Vec Ideal S1x512 .f32)

/-- The normalised row, in blocks. -/
theorem pay4_apply (i : Fin 24576) (b : Fin 56) (l : Fin 128) :
    k0_pay4 (F := Ideal) x0 x1 x2 (ix3 i b l) = xn (rowH x0 x1 i) (rowG x2) (blk b l) := by
  pointwise [k0_pay4, k0_pay3]
  rw [ofBits_7168, Ideal.div_coe (by norm_num : (7168 : ℝ) ≠ 0)]
  rfl

/-- The largest magnitude of a block. -/
theorem pay5_apply (i : Fin 24576) (b : Fin 56) :
    k0_pay5 (F := Ideal) x0 x1 x2 (ix2 i b) = amax (xn (rowH x0 x1 i) (rowG x2)) b := by
  pointwise [k0_pay5]
  simp only [pay4_apply]
  rw [ofBits_bot]
  rfl

/-- The exponent of a block before the rule for a block of zeros. -/
theorem pay6_apply (i : Fin 24576) (b : Fin 56) :
    k0_pay6 (F := Ideal) x0 x1 x2 (ix2 i b) = exponent (amax (xn (rowH x0 x1 i) (rowG x2)) b * c448) := by
  have e : ∀ A : FVec Ideal S24576x56 .f32,
      minimumf (broadcast S24576x56 (Scalar.ofBits .f32 0x42F40000#32))
        (maximumf (broadcast S24576x56 (Scalar.ofBits .f32 0xC2FC0000#32))
          (addf (floor (divf (log (mulf A (broadcast S24576x56 (Scalar.ofBits .f32 0x3B124925#32))))
            (broadcast S24576x56 (Named.named κ "ln2" 0x3F317218#32))))
            (broadcast S24576x56 (Scalar.ofBits .f32 0x3F800000#32)))) (ix2 i b)
        = exponent (A (ix2 i b) * c448) := by
    intro A
    pointwise []
    rw [ofBits_122, ofBits_neg126]
    rfl
  refine (e (k0_pay5 x0 x1 x2)).trans ?_
  rw [pay5_apply]

/-- Whether a block is all zeros. -/
theorem pay7_apply (i : Fin 24576) (b : Fin 56) :
    k0_pay7 (F := Ideal) x0 x1 x2 (ix2 i b)
      = BitVec.ofBool (decide (amax (xn (rowH x0 x1 i) (rowG x2)) b = 0)) := by
  have e : ∀ A : FVec Ideal S24576x56 .f32,
      cmpf .oeq A (broadcast S24576x56 (Scalar.ofBits .f32 0x00000000#32)) (ix2 i b)
        = BitVec.ofBool (decide (A (ix2 i b) = 0)) := by
    intro A
    pointwise []
  refine (e (k0_pay5 x0 x1 x2)).trans ?_
  rw [pay5_apply]

/-- A selection by a decision of whether a number is zero. -/
theorem select_zero {α : Type} (a : EReal) (x y : α) :
    Scalar.select (BitVec.ofBool (decide (a = 0))) x y = if a = 0 then x else y := by
  by_cases h : a = 0 <;> simp [h, Scalar.select]

variable (v24 : FVec Ideal S24576x56x128 .f32) (v38 : FVec Ideal S24576x56 .f32) (v40 : IVec S24576x56 1)

/-- The scale of a block. -/
theorem pay9_apply (a : EReal) (i : Fin 24576) (b : Fin 56)
    (h38 : v38 (ix2 i b) = exponent (a * c448)) (h40 : v40 (ix2 i b) = BitVec.ofBool (decide (a = 0))) :
    k0_pay9 (F := Ideal) v38 v40 (ix2 i b) = scale a := by
  pointwise [k0_pay9, k0_pay8]
  rw [h38, h40, select_zero, scale]
  by_cases h : a = 0
  · rw [if_pos h, if_pos h]; exact exp2_zero
  · rw [if_neg h, if_neg h]; rfl

/-- The inverse of the scale of a block, as the reference states it. -/
theorem inv_eq (a : EReal) :
    FloatOps.exp2 (F := Ideal) (φ := .f32) ((0 : EReal) - Scalar.select (BitVec.ofBool (decide (a = 0))) (0 : EReal) (exponent (a * c448)) : EReal) = inv a := by
  rw [select_zero, Cert.Down.inv]
  by_cases h : a = 0
  · rw [if_pos h, if_pos h, sub_zero]; exact exp2_zero
  · rw [if_neg h, if_neg h]; rfl

/-- An entry is the entry of its place in its block. -/
theorem blk_blkOf (k : Fin 7168) (h : k.val / 128 < 56) (h' : k.val % 128 < 128) :
    blk ⟨k.val / 128, h⟩ ⟨k.val % 128, h'⟩ = k := by
  apply Fin.ext
  show k.val / 128 * 128 + k.val % 128 = k.val
  omega

/-- The code of an entry. -/
theorem pay10_apply (v : Fin 7168 → EReal) (i : Fin 24576) (k : Fin 7168)
    (h24 : ∀ b l, v24 (ix3 i b l) = v (blk b l))
    (h38 : ∀ b, v38 (ix2 i b) = exponent (amax v b * c448))
    (h40 : ∀ b, v40 (ix2 i b) = BitVec.ofBool (decide (amax v b = 0))) :
    k0_pay10 (F := Ideal) v24 v38 v40 (ix2 i k) = codes v k := by
  pointwise [k0_pay10, k0_pay8]
  rw [h24, h38, h40, inv_eq, blk_blkOf]
  rfl

/-- One entry of the projection. -/
theorem pay11_apply (v65 : Vec Ideal S576x7168 .fp8e4m3) (v67 : Vec Ideal S576x7168 .f32)
    (v : Fin 7168 → EReal) (i : Fin 24576) (o : Fin 576)
    (h24 : ∀ b l, v24 (ix3 i b l) = v (blk b l))
    (h38 : ∀ b, v38 (ix2 i b) = exponent (amax v b * c448))
    (h40 : ∀ b, v40 (ix2 i b) = BitVec.ofBool (decide (amax v b = 0))) :
    k0_pay11 (F := Ideal) v24 v38 v40 v65 v67 (ix2 i o)
      = proj (deq v) (fun k => v65 (ix2 o k) * v67 (ix2 o k)) := by
  have h10 := pay10_apply v24 v38 v40 v i
  have h9 := fun b => pay9_apply v38 v40 (amax v b) i b (h38 b) (h40 b)
  pointwise [k0_pay11]
  refine Finset.sum_congr rfl fun k _ => ?_
  rw [h10 k h24 h38 h40, h9]
  rfl

/-- The part of the projection that is not normalised. -/
theorem pay2_apply (v71 : FVec Ideal S24576x576 .f32) (i : Fin 24576) (o : Fin 64) :
    k0_pay2 (F := Ideal) v71 (ix2 i o) = v71 (ix2 i ⟨512 + o.val, by omega⟩) := by
  pointwise [k0_pay2]

/-- The part of the projection that is normalised. -/
theorem pay12_apply (v65 : Vec Ideal S576x7168 .fp8e4m3) (v67 : Vec Ideal S576x7168 .f32) (i : Fin 24576) (o : Fin 512) :
    k0_pay12 (F := Ideal) v24 v38 v40 v65 v67 (ix2 i o)
      = k0_pay11 (F := Ideal) v24 v38 v40 v65 v67 (ix2 i ⟨o.val, by omega⟩) := by
  pointwise [k0_pay12]

/-- The mean square of that part. -/
theorem pay14_apply (v65 : Vec Ideal S576x7168 .fp8e4m3) (v67 : Vec Ideal S576x7168 .f32) (y : Fin 512 → EReal) (i : Fin 24576)
    (hy : ∀ o, k0_pay12 (F := Ideal) v24 v38 v40 v65 v67 (ix2 i o) = y o) :
    k0_pay14 (F := Ideal) v24 v38 v40 v65 v67 (ix2 i 0) = (∑ p, y p * y p) * ((1 / 512 : ℝ) : EReal) := by
  pointwise [k0_pay14]
  simp only [hy]
  rw [ofBits_512, Ideal.div_coe (by norm_num : (512 : ℝ) ≠ 0)]

/-- The normalised latent. -/
theorem pay1_apply (v72 : FVec Ideal S24576x512 .f32) (v74 : FVec Ideal S1x512 .f32) (v79 v80 : FVec Ideal S24576x1 .f32)
    (y g : Fin 512 → EReal) (i : Fin 24576) (o : Fin 512)
    (hy : v72 (ix2 i o) = y o) (hg : v74 (ix2 0 o) = g o)
    (h79 : v79 (ix2 i 0) = (∑ p, y p * y p) * ((1 / 512 : ℝ) : EReal)) (h80 : v80 (ix2 i 0) = eps) :
    k0_pay1 (F := Ideal) v72 v74 v79 v80 (ix2 i o) = latent y g o := by
  pointwise [k0_pay1]
  rw [hy, hg, h79, h80]
  rfl

/-- The constant added to the mean square. -/
theorem pay15_apply (i : Fin 24576) : k0_pay15 (F := Ideal) (ix2 i 0) = eps := by
  pointwise [k0_pay15]
  rfl

end Cert.ReferenceIdeal.RefValue

end
-- ==== Proof.RefArray.lean ====
module

public import proofs.«01_k».proof.Proof.RefValue
public import proofs.«01_k».proof.Proof.Result
public import Idealize.ShloMosaic.Lib.Pipeline.ValueKit.Basic

@[expose] public section

set_option maxRecDepth 16384

/-! # The reference's arrays

The reference stages whole arrays, so each result array is what its body leaves, over the arguments as the host
reshaped them. -/

noncomputable section

namespace Cert.ReferenceIdeal.RefArray

open Idealize.ShloMosaic Idealize.ShloMosaic.TcCoe Idealize.ShloMosaic.Pointwise Cert.Down
open Cert.ReferenceIdeal Cert.ReferenceIdeal.Gen Cert.ReferenceIdeal.Value Cert.ReferenceIdeal.RefValue

variable (m : (ℓ : Loc nD τ sig) → Buf (Elt Ideal) ℓ) (c : Dev nD)

/-- The first input, as the region finds it. -/
theorem V_x (i : Fin 24576) (k : Fin 7168) :
    (V m c main_v5 : Vec Ideal S24576x7168 .bf16) (ix2 i k)
      = (m ((c : Thread nD τ).loc main_arg0) : Vec Ideal S3x8192x7168 .bf16) (ix3 ⟨i.val / 8192, by omega⟩ ⟨i.val % 8192, by omega⟩ k) := by
  have e : V m c main_v5 = shapeCast S24576x7168 (m ((c : Thread nD τ).loc main_arg0) : Vec Ideal S3x8192x7168 .bf16) shapeCasts_S3x8192x7168_S24576x7168 := by
    show StableHlo.after hostOps0 _ (Proc.devRef .tc main_v5) = _
    after_results
    rfl
  rw [e]
  exact cast32 _ _ i k _ _

/-- The second input, as the region finds it. -/
theorem V_d (i : Fin 24576) (k : Fin 7168) :
    (V m c main_v6 : Vec Ideal S24576x7168 .bf16) (ix2 i k)
      = (m ((c : Thread nD τ).loc main_arg1) : Vec Ideal S3x8192x7168 .bf16) (ix3 ⟨i.val / 8192, by omega⟩ ⟨i.val % 8192, by omega⟩ k) := by
  have e : V m c main_v6 = shapeCast S24576x7168 (m ((c : Thread nD τ).loc main_arg1) : Vec Ideal S3x8192x7168 .bf16) shapeCasts_S3x8192x7168_S24576x7168 := by
    show StableHlo.after hostOps0 _ (Proc.devRef .tc main_v6) = _
    after_results
    rfl
  rw [e]
  exact cast32 _ _ i k _ _

/-- The weights of the first normalisation, as the region finds them. -/
theorem V_g (k : Fin 7168) :
    (V m c main_v7 : Vec Ideal S1x7168 .f32) (ix2 0 k) = (m ((c : Thread nD τ).loc main_arg2) : Vec Ideal S7168 .f32) (ix1 k) := by
  have e : V m c main_v7 = shapeCast S1x7168 (m ((c : Thread nD τ).loc main_arg2) : Vec Ideal S7168 .f32) shapeCasts_S7168_S1x7168 := by
    show StableHlo.after hostOps0 _ (Proc.devRef .tc main_v7) = _
    after_results
    rfl
  rw [e]
  refine (cast12 _ _ 0 k (by have := k.isLt; simp only [Fin.val_zero]; omega)).trans (congrArg _ (congrArg ix1 (Fin.ext ?_)))
  simp only [Fin.val_zero]
  omega

/-- The weights of the second normalisation, as the region finds them. -/
theorem V_gl (k : Fin 512) :
    (V m c main_v8 : Vec Ideal S1x512 .f32) (ix2 0 k) = (m ((c : Thread nD τ).loc main_arg5) : Vec Ideal S512 .f32) (ix1 k) := by
  have e : V m c main_v8 = shapeCast S1x512 (m ((c : Thread nD τ).loc main_arg5) : Vec Ideal S512 .f32) shapeCasts_S512_S1x512 := by
    show StableHlo.after hostOps0 _ (Proc.devRef .tc main_v8) = _
    after_results
    rfl
  rw [e]
  refine (cast12 _ _ 0 k (by have := k.isLt; simp only [Fin.val_zero]; omega)).trans (congrArg _ (congrArg ix1 (Fin.ext ?_)))
  simp only [Fin.val_zero]
  omega

/-- The block scales, spread over the weight matrix. -/
theorem V_s (o : Fin 576) (k : Fin 7168) :
    (V m c main_v4 : Vec Ideal S576x7168 .f32) (ix2 o k)
      = (m ((c : Thread nD τ).loc main_arg4) : Vec Ideal S5x56 .f32) (ix2 ⟨o.val / 128, by omega⟩ ⟨k.val / 128, by omega⟩) := by
  have e : V m c main_v4 = extractStridedSlice S576x7168 ![0, 0] (shapeCast S640x7168 (broadcastInDim S640x56x128 ![0, 1] bcast_S640x56_S640x56x128_0_1
      (shapeCast S640x56 (broadcastInDim S5x128x56 ![0, 2] bcast_S5x56_S5x128x56_0_2 (m ((c : Thread nD τ).loc main_arg4) : Vec Ideal S5x56 .f32))
        shapeCasts_S5x128x56_S640x56)) shapeCasts_S640x56x128_S640x7168) slices_S640x7168_S576x7168_0_0 := by
    show StableHlo.after hostOps0 _ (Proc.devRef .tc main_v4) = _
    after_results
    rfl
  rw [e]
  generalize (m ((c : Thread nD τ).loc main_arg4) : Vec Ideal S5x56 .f32) = A
  pointwise []

/-! ## The one grid point -/

/-- The grid's one point. -/
abbrev t0 : Fin cfg0.N := ⟨0, by decide⟩

/-- Input 0 is staged whole. -/
theorem in0 : (iblk m c 0 t0 : Vec Ideal S24576x7168 .bf16) = (V m c main_v5 : Vec Ideal S24576x7168 .bf16) := by
  funext y
  have h : ∀ a : Fin 2, win0_0.index t0 a = 0 := by decide +kernel
  refine congrArg (V m c main_v5 : Vec Ideal S24576x7168 .bf16) (funext fun a => Fin.ext ?_)
  show win0_0.index t0 a * _ + 1 * (y a).val = (y a).val
  rw [h a, Nat.zero_mul, Nat.zero_add, Nat.one_mul]

/-- Input 1 is staged whole. -/
theorem in1 : (iblk m c 1 t0 : Vec Ideal S24576x7168 .bf16) = (V m c main_v6 : Vec Ideal S24576x7168 .bf16) := by
  funext y
  have h : ∀ a : Fin 2, win0_1.index t0 a = 0 := by decide +kernel
  refine congrArg (V m c main_v6 : Vec Ideal S24576x7168 .bf16) (funext fun a => Fin.ext ?_)
  show win0_1.index t0 a * _ + 1 * (y a).val = (y a).val
  rw [h a, Nat.zero_mul, Nat.zero_add, Nat.one_mul]

/-- Input 2 is staged whole. -/
theorem in2 : (iblk m c 2 t0 : Vec Ideal S1x7168 .f32) = (V m c main_v7 : Vec Ideal S1x7168 .f32) := by
  funext y
  have h : ∀ a : Fin 2, win0_2.index t0 a = 0 := by decide +kernel
  refine congrArg (V m c main_v7 : Vec Ideal S1x7168 .f32) (funext fun a => Fin.ext ?_)
  show win0_2.index t0 a * _ + 1 * (y a).val = (y a).val
  rw [h a, Nat.zero_mul, Nat.zero_add, Nat.one_mul]

/-- Input 3 is staged whole. -/
theorem in3 : (iblk m c 3 t0 : Vec Ideal S576x7168 .fp8e4m3) = (V m c main_arg3 : Vec Ideal S576x7168 .fp8e4m3) := by
  funext y
  have h : ∀ a : Fin 2, win0_3.index t0 a = 0 := by decide +kernel
  refine congrArg (V m c main_arg3 : Vec Ideal S576x7168 .fp8e4m3) (funext fun a => Fin.ext ?_)
  show win0_3.index t0 a * _ + 1 * (y a).val = (y a).val
  rw [h a, Nat.zero_mul, Nat.zero_add, Nat.one_mul]

/-- Input 4 is staged whole. -/
theorem in4 : (iblk m c 4 t0 : Vec Ideal S576x7168 .f32) = (V m c main_v4 : Vec Ideal S576x7168 .f32) := by
  funext y
  have h : ∀ a : Fin 2, win0_4.index t0 a = 0 := by decide +kernel
  refine congrArg (V m c main_v4 : Vec Ideal S576x7168 .f32) (funext fun a => Fin.ext ?_)
  show win0_4.index t0 a * _ + 1 * (y a).val = (y a).val
  rw [h a, Nat.zero_mul, Nat.zero_add, Nat.one_mul]

/-- Input 5 is staged whole. -/
theorem in5 : (iblk m c 5 t0 : Vec Ideal S1x512 .f32) = (V m c main_v8 : Vec Ideal S1x512 .f32) := by
  funext y
  have h : ∀ a : Fin 2, win0_5.index t0 a = 0 := by decide +kernel
  refine congrArg (V m c main_v8 : Vec Ideal S1x512 .f32) (funext fun a => Fin.ext ?_)
  show win0_5.index t0 a * _ + 1 * (y a).val = (y a).val
  rw [h a, Nat.zero_mul, Nat.zero_add, Nat.one_mul]

/-- The block of result 6 is the whole array. -/
theorem whole6 (A X : Vec Ideal S24576x512 .bf16)
    (h : ((cfg0.win 6).blk t0).view.read (Elt Ideal) A = (cfg0.win 6).cut (grid0.coords t0) X) : A = X := by
  funext y
  have h0 : ∀ a : Fin 2, win0_6.index t0 a = 0 := by decide +kernel
  have e1 : ((cfg0.win 6).blk t0).view.emb y = y := funext fun a => Fin.ext (by
    show win0_6.index t0 a * _ + 1 * (y a).val = (y a).val
    rw [h0 a, Nat.zero_mul, Nat.zero_add, Nat.one_mul])
  have e2 : (cfg0.win 6).xinj (grid0.coords t0) y = y := funext fun a => Fin.ext rfl
  have e3 := congrFun h y
  exact (congrArg A e1).symm.trans (e3.trans (congrArg X e2))

/-- Result array 6 is what the body leaves. -/
theorem arr6 : ((dats m 0 c).arrAt 6 cfg0.N : Vec Ideal S24576x512 .bf16)
    = out0_6 (iblk m c 0 t0) (iblk m c 1 t0) (iblk m c 2 t0) (iblk m c 3 t0) (iblk m c 4 t0) (iblk m c 5 t0) :=
  whole6 _ _ ((blocks6 m c t0 (flush0_6 t0)).trans (flushed6 m c t0))

/-- The block of result 7 is the whole array. -/
theorem whole7 (A X : Vec Ideal S24576x64 .bf16)
    (h : ((cfg0.win 7).blk t0).view.read (Elt Ideal) A = (cfg0.win 7).cut (grid0.coords t0) X) : A = X := by
  funext y
  have h0 : ∀ a : Fin 2, win0_7.index t0 a = 0 := by decide +kernel
  have e1 : ((cfg0.win 7).blk t0).view.emb y = y := funext fun a => Fin.ext (by
    show win0_7.index t0 a * _ + 1 * (y a).val = (y a).val
    rw [h0 a, Nat.zero_mul, Nat.zero_add, Nat.one_mul])
  have e2 : (cfg0.win 7).xinj (grid0.coords t0) y = y := funext fun a => Fin.ext rfl
  have e3 := congrFun h y
  exact (congrArg A e1).symm.trans (e3.trans (congrArg X e2))

/-- Result array 7 is what the body leaves. -/
theorem arr7 : ((dats m 0 c).arrAt 7 cfg0.N : Vec Ideal S24576x64 .bf16)
    = out0_7 (iblk m c 0 t0) (iblk m c 1 t0) (iblk m c 2 t0) (iblk m c 3 t0) (iblk m c 4 t0) (iblk m c 5 t0) :=
  whole7 _ _ ((blocks7 m c t0 (flush0_7 t0)).trans (flushed7 m c t0))

/-- The block of result 8 is the whole array. -/
theorem whole8 (A X : Vec Ideal S24576x7168 .bf16)
    (h : ((cfg0.win 8).blk t0).view.read (Elt Ideal) A = (cfg0.win 8).cut (grid0.coords t0) X) : A = X := by
  funext y
  have h0 : ∀ a : Fin 2, win0_8.index t0 a = 0 := by decide +kernel
  have e1 : ((cfg0.win 8).blk t0).view.emb y = y := funext fun a => Fin.ext (by
    show win0_8.index t0 a * _ + 1 * (y a).val = (y a).val
    rw [h0 a, Nat.zero_mul, Nat.zero_add, Nat.one_mul])
  have e2 : (cfg0.win 8).xinj (grid0.coords t0) y = y := funext fun a => Fin.ext rfl
  have e3 := congrFun h y
  exact (congrArg A e1).symm.trans (e3.trans (congrArg X e2))

/-- Result array 8 is what the body leaves. -/
theorem arr8 : ((dats m 0 c).arrAt 8 cfg0.N : Vec Ideal S24576x7168 .bf16)
    = out0_8 (iblk m c 0 t0) (iblk m c 1 t0) (iblk m c 2 t0) (iblk m c 3 t0) (iblk m c 4 t0) (iblk m c 5 t0) :=
  whole8 _ _ ((blocks8 m c t0 (flush0_8 t0)).trans (flushed8 m c t0))

/-- The block of result 9 is the whole array. -/
theorem whole9 (A X : Vec Ideal S24576x7168 .fp8e4m3)
    (h : ((cfg0.win 9).blk t0).view.read (Elt Ideal) A = (cfg0.win 9).cut (grid0.coords t0) X) : A = X := by
  funext y
  have h0 : ∀ a : Fin 2, win0_9.index t0 a = 0 := by decide +kernel
  have e1 : ((cfg0.win 9).blk t0).view.emb y = y := funext fun a => Fin.ext (by
    show win0_9.index t0 a * _ + 1 * (y a).val = (y a).val
    rw [h0 a, Nat.zero_mul, Nat.zero_add, Nat.one_mul])
  have e2 : (cfg0.win 9).xinj (grid0.coords t0) y = y := funext fun a => Fin.ext rfl
  have e3 := congrFun h y
  exact (congrArg A e1).symm.trans (e3.trans (congrArg X e2))

/-- Result array 9 is what the body leaves. -/
theorem arr9 : ((dats m 0 c).arrAt 9 cfg0.N : Vec Ideal S24576x7168 .fp8e4m3)
    = out0_9 (iblk m c 0 t0) (iblk m c 1 t0) (iblk m c 2 t0) (iblk m c 3 t0) (iblk m c 4 t0) (iblk m c 5 t0) :=
  whole9 _ _ ((blocks9 m c t0 (flush0_9 t0)).trans (flushed9 m c t0))

/-- The block of result 10 is the whole array. -/
theorem whole10 (A X : Vec Ideal S24576x56 .f32)
    (h : ((cfg0.win 10).blk t0).view.read (Elt Ideal) A = (cfg0.win 10).cut (grid0.coords t0) X) : A = X := by
  funext y
  have h0 : ∀ a : Fin 2, win0_10.index t0 a = 0 := by decide +kernel
  have e1 : ((cfg0.win 10).blk t0).view.emb y = y := funext fun a => Fin.ext (by
    show win0_10.index t0 a * _ + 1 * (y a).val = (y a).val
    rw [h0 a, Nat.zero_mul, Nat.zero_add, Nat.one_mul])
  have e2 : (cfg0.win 10).xinj (grid0.coords t0) y = y := funext fun a => Fin.ext rfl
  have e3 := congrFun h y
  exact (congrArg A e1).symm.trans (e3.trans (congrArg X e2))

/-- Result array 10 is what the body leaves. -/
theorem arr10 : ((dats m 0 c).arrAt 10 cfg0.N : Vec Ideal S24576x56 .f32)
    = out0_10 (iblk m c 0 t0) (iblk m c 1 t0) (iblk m c 2 t0) (iblk m c 3 t0) (iblk m c 4 t0) (iblk m c 5 t0) :=
  whole10 _ _ ((blocks10 m c t0 (flush0_10 t0)).trans (flushed10 m c t0))

/-! ## What the body leaves -/

variable (x0 x1 : Vec Ideal S24576x7168 .bf16) (x2 : Vec Ideal S1x7168 .f32)
variable (x3 : Vec Ideal S576x7168 .fp8e4m3) (x4 : Vec Ideal S576x7168 .f32) (x5 : Vec Ideal S1x512 .f32)

/-- Row `o` of the weight matrix times its scales. -/
def rowW (o : Fin 576) (k : Fin 7168) : EReal := x3 (ix2 o k) * x4 (ix2 o k)

/-- The sum of the inputs. -/
theorem body8 (i : Fin 24576) (k : Fin 7168) : out0_8 x0 x1 x2 x3 x4 x5 (ix2 i k) = rowH x0 x1 i k := by
  unfold_out out0_8
  rw [View.canon_cons_unit_lit _ _ _ (by decide), View.ld_unit_lit _ _ (by decide), View.ld_unit_lit _ _ (by decide)]
  pointwise [k0_pay3]
  rfl

/-- The blocks of the normalised row. -/
theorem block (i : Fin 24576) (b : Fin 56) (l : Fin 128) :
    k0_pay16 x0 x1 x2 x3 x4 x5 (ix3 i b l) = xn (rowH x0 x1 i) (rowG x2) (blk b l) := by
  unfold k0_pay16
  rw [View.ld_unit_lit _ _ (by decide), View.ld_unit_lit _ _ (by decide), View.ld_unit_lit _ _ (by decide)]
  exact pay4_apply _ _ _ _ _ _

/-- The exponents of its scales. -/
theorem expo (i : Fin 24576) (b : Fin 56) :
    k0_pay17 x0 x1 x2 x3 x4 x5 (ix2 i b) = exponent (amax (xn (rowH x0 x1 i) (rowG x2)) b * c448) := by
  unfold k0_pay17
  rw [View.ld_unit_lit _ _ (by decide), View.ld_unit_lit _ _ (by decide), View.ld_unit_lit _ _ (by decide)]
  exact pay6_apply _ _ _ _ _

/-- Which of its blocks are zero. -/
theorem zeros (i : Fin 24576) (b : Fin 56) :
    k0_pay18 x0 x1 x2 x3 x4 x5 (ix2 i b) = BitVec.ofBool (decide (amax (xn (rowH x0 x1 i) (rowG x2)) b = 0)) := by
  unfold k0_pay18
  rw [View.ld_unit_lit _ _ (by decide), View.ld_unit_lit _ _ (by decide), View.ld_unit_lit _ _ (by decide)]
  exact pay7_apply _ _ _ _ _

/-- The codes. -/
theorem body9 (i : Fin 24576) (k : Fin 7168) :
    out0_9 x0 x1 x2 x3 x4 x5 (ix2 i k) = codes (xn (rowH x0 x1 i) (rowG x2)) k := by
  unfold out0_9
  rw [View.canon_cons_unit_lit _ _ _ (by decide)]
  exact pay10_apply _ _ _ _ _ _ (block x0 x1 x2 x3 x4 x5 i) (expo x0 x1 x2 x3 x4 x5 i) (zeros x0 x1 x2 x3 x4 x5 i)

/-- The scales. -/
theorem body10 (i : Fin 24576) (b : Fin 56) :
    out0_10 x0 x1 x2 x3 x4 x5 (ix2 i b) = scale (amax (xn (rowH x0 x1 i) (rowG x2)) b) := by
  unfold out0_10
  rw [View.canon_cons_unit_lit _ _ _ (by decide)]
  exact pay9_apply _ _ _ _ _ (expo x0 x1 x2 x3 x4 x5 i b) (zeros x0 x1 x2 x3 x4 x5 i b)

/-- The projection. -/
theorem mat (i : Fin 24576) (o : Fin 576) :
    k0_pay11 (k0_pay16 x0 x1 x2 x3 x4 x5) (k0_pay17 x0 x1 x2 x3 x4 x5) (k0_pay18 x0 x1 x2 x3 x4 x5) x3 x4 (ix2 i o)
      = proj (deq (xn (rowH x0 x1 i) (rowG x2))) (rowW x3 x4 o) :=
  pay11_apply _ _ _ _ _ _ _ _ (block x0 x1 x2 x3 x4 x5 i) (expo x0 x1 x2 x3 x4 x5 i) (zeros x0 x1 x2 x3 x4 x5 i)

/-- The part of it that is not normalised. -/
theorem body7 (i : Fin 24576) (o : Fin 64) :
    out0_7 x0 x1 x2 x3 x4 x5 (ix2 i o)
      = proj (deq (xn (rowH x0 x1 i) (rowG x2))) (rowW x3 x4 ⟨512 + o.val, by omega⟩) := by
  unfold out0_7
  rw [View.canon_cons_unit_lit _ _ _ (by decide), View.ld_unit_lit _ _ (by decide), View.ld_unit_lit _ _ (by decide)]
  exact (pay2_apply _ i o).trans (mat x0 x1 x2 x3 x4 x5 i _)

/-- The weights of the second norm, as the body holds them. -/
theorem gamma (o : Fin 512) : k0_pay13 x5 (ix2 0 o) = x5 (ix2 0 o) := by
  pointwise [k0_pay13]

/-- The normalised latent. -/
theorem body6 (i : Fin 24576) (o : Fin 512) :
    out0_6 x0 x1 x2 x3 x4 x5 (ix2 i o)
      = latent (fun o => proj (deq (xn (rowH x0 x1 i) (rowG x2))) (rowW x3 x4 ⟨o.val, by omega⟩))
          (fun o => x5 (ix2 0 o)) o := by
  have hy : ∀ o : Fin 512, k0_pay12 (k0_pay16 x0 x1 x2 x3 x4 x5) (k0_pay17 x0 x1 x2 x3 x4 x5) (k0_pay18 x0 x1 x2 x3 x4 x5) x3 x4 (ix2 i o)
      = proj (deq (xn (rowH x0 x1 i) (rowG x2))) (rowW x3 x4 ⟨o.val, by omega⟩) :=
    fun o => (pay12_apply _ _ _ x3 x4 i o).trans (mat x0 x1 x2 x3 x4 x5 i _)
  unfold out0_6
  rw [View.canon_cons_unit_lit _ _ _ (by decide), View.ld_unit_lit _ _ (by decide), View.ld_unit_lit _ _ (by decide),
    View.ld_unit_lit _ _ (by decide)]
  exact pay1_apply _ _ _ _ _ (fun o => x5 (ix2 0 o)) i o (hy o) (gamma x5 o) (pay14_apply _ _ _ x3 x4 _ i hy) (pay15_apply i)

/-! ## The result arrays, over the arguments -/

/-- The rows of the sum, over the arguments. -/
theorem row_h (i : Fin 24576) : rowH (iblk m c 0 t0) (iblk m c 1 t0) i = tok (m ((c : Thread nD τ).loc main_arg0)) (m ((c : Thread nD τ).loc main_arg1)) i := by
  funext k
  rw [in0, in1]
  exact congrArg₂ _ (V_x m c i k) (V_d m c i k)

/-- The weights of the first norm, over the arguments. -/
theorem row_g : rowG (iblk m c 2 t0) = vec (m ((c : Thread nD τ).loc main_arg2) : Vec Ideal S7168 .f32) := by
  funext k
  rw [in2]
  exact V_g m c k

/-- The weights of the second norm, over the arguments. -/
theorem row_gl : (fun o => (iblk m c 5 t0 : Vec Ideal S1x512 .f32) (ix2 0 o)) = vec (m ((c : Thread nD τ).loc main_arg5) : Vec Ideal S512 .f32) := by
  funext o
  rw [in5]
  exact V_gl m c o

/-- The rows of the weight matrix times their scales, over the arguments. -/
theorem row_w (o : Fin 576) :
    rowW (iblk m c 3 t0) (iblk m c 4 t0) o = wrow (m ((c : Thread nD τ).loc main_arg3)) (m ((c : Thread nD τ).loc main_arg4)) o := by
  funext k
  unfold rowW
  rw [in3, in4]
  exact congrArg₂ _ (congrFun (V_main_arg3 m c) _) (V_s m c o k)

/-- The normalised latent. -/
theorem resC_eq : ((dats m 0 c).arrAt 6 cfg0.N : Vec Ideal S24576x512 .bf16)
    = resC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [arr6]
  funext z
  obtain ⟨i, k, rfl⟩ : ∃ i k, z = ix2 i k := ⟨_, _, eq_ix2 z⟩
  rw [body6, row_h, row_g, row_gl]
  simp only [row_w]
  rfl

/-- The rest of the projection. -/
theorem resK_eq : ((dats m 0 c).arrAt 7 cfg0.N : Vec Ideal S24576x64 .bf16)
    = resK (m ((c : Thread nD τ).loc main_arg0)) (m ((c : Thread nD τ).loc main_arg1)) (m ((c : Thread nD τ).loc main_arg2)) (m ((c : Thread nD τ).loc main_arg3)) (m ((c : Thread nD τ).loc main_arg4)) := by
  rw [arr7]
  funext z
  obtain ⟨i, k, rfl⟩ : ∃ i k, z = ix2 i k := ⟨_, _, eq_ix2 z⟩
  rw [body7, row_h, row_g, row_w]
  rfl

/-- The sum of the inputs. -/
theorem resH_eq : ((dats m 0 c).arrAt 8 cfg0.N : Vec Ideal S24576x7168 .bf16)
    = resH (m ((c : Thread nD τ).loc main_arg0)) (m ((c : Thread nD τ).loc main_arg1)) := by
  rw [arr8]
  funext z
  obtain ⟨i, k, rfl⟩ : ∃ i k, z = ix2 i k := ⟨_, _, eq_ix2 z⟩
  rw [body8, row_h]
  rfl

/-- The codes. -/
theorem resQ_eq : ((dats m 0 c).arrAt 9 cfg0.N : Vec Ideal S24576x7168 .fp8e4m3)
    = resQ (m ((c : Thread nD τ).loc main_arg0)) (m ((c : Thread nD τ).loc main_arg1)) (m ((c : Thread nD τ).loc main_arg2)) := by
  rw [arr9]
  funext z
  obtain ⟨i, k, rfl⟩ : ∃ i k, z = ix2 i k := ⟨_, _, eq_ix2 z⟩
  rw [body9, row_h, row_g]
  rfl

/-- The scales. -/
theorem resS_eq : ((dats m 0 c).arrAt 10 cfg0.N : Vec Ideal S24576x56 .f32)
    = resS (m ((c : Thread nD τ).loc main_arg0)) (m ((c : Thread nD τ).loc main_arg1)) (m ((c : Thread nD τ).loc main_arg2)) := by
  rw [arr10]
  funext z
  obtain ⟨i, k, rfl⟩ : ∃ i k, z = ix2 i k := ⟨_, _, eq_ix2 z⟩
  rw [body10, row_h, row_g]
  rfl

end Cert.ReferenceIdeal.RefArray

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KerArray
public import proofs.«01_k».proof.Proof.RefArray
public import Idealize.ShloMosaic.Adequacy
public import Idealize.ShloMosaic.Init

@[expose] public section

noncomputable section

namespace Cert.Proof

open Idealize.ShloMosaic Idealize.SL.Sem Cert.Kernel

/-- The value claim: both programs leave the five arrays that the specification (Proof/Result.lean) names. -/
theorem value [hK : Cert.KernelIdeal.Facts] [hR : Cert.ReferenceIdeal.Facts] : Cert.algebraic_KernelIdeal_ReferenceIdeal := by
  intro m g m' g' _ h
  refine ⟨fun c => Cert.Down.resC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Down.resK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Down.resH (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Down.resQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Down.resS (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run _ _ _).mono (fun r hr c => ?_) (Cert.KernelIdeal.Value.run m g)
    obtain ⟨r0, r1, r2, r3, r4, kept⟩ := hr c
    exact ⟨r0.trans (Cert.KernelIdeal.KerArray.resC_eq m c), r1.trans (Cert.KernelIdeal.KerArray.resK_eq m c),
      r2.trans (Cert.KernelIdeal.KerArray.resH_eq m c), r3.trans (Cert.KernelIdeal.KerArray.resQ_eq m c),
      r4.trans (Cert.KernelIdeal.KerArray.resS_eq m c), kept⟩
  · refine (θ_run _ _ _).mono (fun r hr c => ?_) (Cert.ReferenceIdeal.Value.run_blocks m' g')
    obtain ⟨r0, r1, r2, r3, r4, kept⟩ := hr c
    obtain ⟨h0, h1, h2, h3, h4, h5⟩ := h c
    dsimp only
    rw [← h0, ← h1, ← h2, ← h3, ← h4, ← h5]
    exact ⟨r0.trans (Cert.ReferenceIdeal.RefArray.resC_eq m' c), r1.trans (Cert.ReferenceIdeal.RefArray.resK_eq m' c),
      r2.trans (Cert.ReferenceIdeal.RefArray.resH_eq m' c), r3.trans (Cert.ReferenceIdeal.RefArray.resQ_eq m' c),
      r4.trans (Cert.ReferenceIdeal.RefArray.resS_eq m' c), kept⟩

/-- All the claims. -/
theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  fun m g _ => Cert.ReferenceIdeal.Gen.frame m g,
  IdealRules.named_const.statement Cert.KernelIdeal.κ "one_7168th" .f32 0x39124925#32 _ rfl,
  value⟩

end Cert.Proof

end
